-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)) (v4 : (c : Dev Cert.Kernel2Ideal.nD) → Buf (Elt Ideal) ((c.tc : Thread Cert.Kernel2Ideal.nD Cert.Kernel2Ideal.τ).loc Cert.Kernel2Ideal.main_v41_4)) (v5 : (c : Dev Cert.Kernel2Ideal.nD) → Buf (Elt Ideal) ((c.tc : Thread Cert.Kernel2Ideal.nD Cert.Kernel2Ideal.τ).loc Cert.Kernel2Ideal.main_v41_5)) (v6 : (c : Dev Cert.Kernel2Ideal.nD) → Buf (Elt Ideal) ((c.tc : Thread Cert.Kernel2Ideal.nD Cert.Kernel2Ideal.τ).loc Cert.Kernel2Ideal.main_v41_6)) (v7 : (c : Dev Cert.Kernel2Ideal.nD) → Buf (Elt Ideal) ((c.tc : Thread Cert.Kernel2Ideal.nD Cert.Kernel2Ideal.τ).loc Cert.Kernel2Ideal.main_v41_7)) (v8 : (c : Dev Cert.Kernel2Ideal.nD) → Buf (Elt Ideal) ((c.tc : Thread Cert.Kernel2Ideal.nD Cert.Kernel2Ideal.τ).loc Cert.Kernel2Ideal.main_v41_8)) (v9 : (c : Dev Cert.Kernel2Ideal.nD) → Buf (Elt Ideal) ((c.tc : Thread Cert.Kernel2Ideal.nD Cert.Kernel2Ideal.τ).loc Cert.Kernel2Ideal.main_v41_9)) (v10 : (c : Dev Cert.Kernel2Ideal.nD) → Buf (Elt Ideal) ((c.tc : Thread Cert.Kernel2Ideal.nD Cert.Kernel2Ideal.τ).loc Cert.Kernel2Ideal.main_v41_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_v41_4) = v4 c
          ∧ r.2.mem ((c.tc : Thread Cert.Kernel2Ideal.nD Cert.Kernel2Ideal.τ).loc Cert.Kernel2Ideal.main_v41_5) = v5 c
          ∧ r.2.mem ((c.tc : Thread Cert.Kernel2Ideal.nD Cert.Kernel2Ideal.τ).loc Cert.Kernel2Ideal.main_v41_6) = v6 c
          ∧ r.2.mem ((c.tc : Thread Cert.Kernel2Ideal.nD Cert.Kernel2Ideal.τ).loc Cert.Kernel2Ideal.main_v41_7) = v7 c
          ∧ r.2.mem ((c.tc : Thread Cert.Kernel2Ideal.nD Cert.Kernel2Ideal.τ).loc Cert.Kernel2Ideal.main_v41_8) = v8 c
          ∧ r.2.mem ((c.tc : Thread Cert.Kernel2Ideal.nD Cert.Kernel2Ideal.τ).loc Cert.Kernel2Ideal.main_v41_9) = v9 c
          ∧ r.2.mem ((c.tc : Thread Cert.Kernel2Ideal.nD Cert.Kernel2Ideal.τ).loc Cert.Kernel2Ideal.main_v41_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_v120) = v2 c
          ∧ r.2.mem ((c.tc : Thread Cert.Reference2Ideal.nD Cert.Reference2Ideal.τ).loc Cert.Reference2Ideal.main_v122) = v3 c
          ∧ r.2.mem ((c.tc : Thread Cert.Reference2Ideal.nD Cert.Reference2Ideal.τ).loc Cert.Reference2Ideal.main_v127) = v4 c
          ∧ r.2.mem ((c.tc : Thread Cert.Reference2Ideal.nD Cert.Reference2Ideal.τ).loc Cert.Reference2Ideal.main_v132) = v5 c
          ∧ r.2.mem ((c.tc : Thread Cert.Reference2Ideal.nD Cert.Reference2Ideal.τ).loc Cert.Reference2Ideal.main_v136) = v6 c
          ∧ r.2.mem ((c.tc : Thread Cert.Reference2Ideal.nD Cert.Reference2Ideal.τ).loc Cert.Reference2Ideal.main_v139) = v7 c
          ∧ r.2.mem ((c.tc : Thread Cert.Reference2Ideal.nD Cert.Reference2Ideal.τ).loc Cert.Reference2Ideal.main_v142) = v8 c
          ∧ r.2.mem ((c.tc : Thread Cert.Reference2Ideal.nD Cert.Reference2Ideal.τ).loc Cert.Reference2Ideal.main_v150) = v9 c
          ∧ r.2.mem ((c.tc : Thread Cert.Reference2Ideal.nD Cert.Reference2Ideal.τ).loc Cert.Reference2Ideal.main_v158) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x2048x1024 : Shape := ⟨3, ![16, 2048, 1024]⟩
abbrev S512x32768 : Shape := ⟨2, ![512, 32768]⟩
abbrev S32768x1024 : Shape := ⟨2, ![32768, 1024]⟩
abbrev S1x16x2048x256 : Shape := ⟨4, ![1, 16, 2048, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S16x2048x256 : Shape := ⟨3, ![16, 2048, 256]⟩
abbrev S32768x256 : Shape := ⟨2, ![32768, 256]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 39
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S512x32768, .bf16⟩
  | .hbm, ⟨2, _⟩ => ⟨S512x32768, .bf16⟩
  | .hbm, ⟨3, _⟩ => ⟨S32768x1024, .bf16⟩
  | .hbm, ⟨4, _⟩ => ⟨S32768x1024, .bf16⟩
  | .hbm, ⟨5, _⟩ => ⟨S1x16x2048x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S32768x1024, .f32⟩
  | .hbm, ⟨17, _⟩ => ⟨S16x2048x256, .f32⟩
  | .hbm, ⟨18, _⟩ => ⟨S32768x256, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1024x4096, .f32⟩
  | .hbm, ⟨28, _⟩ => ⟨S1024x4096, .bf16⟩
  | .hbm, ⟨29, _⟩ => ⟨S4096x1024, .f32⟩
  | .hbm, ⟨30, _⟩ => ⟨S4096x1024, .bf16⟩
  | .hbm, ⟨31, _⟩ => ⟨S1024, .f32⟩
  | .hbm, ⟨32, _⟩ => ⟨S1x1024, .f32⟩
  | .hbm, ⟨33, _⟩ => ⟨S1024x1024, .f32⟩
  | .hbm, ⟨34, _⟩ => ⟨S1024x1024, .bf16⟩
  | .hbm, ⟨35, _⟩ => ⟨S256x1024, .f32⟩
  | .hbm, ⟨36, _⟩ => ⟨S256x1024, .bf16⟩
  | .hbm, ⟨37, _⟩ => ⟨S1x1024, .f32⟩
  | .hbm, ⟨38, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16x2048x1024 : Shape := ⟨3, ![16, 2048, 1024]⟩
abbrev S512x32768 : Shape := ⟨2, ![512, 32768]⟩
abbrev S32768x1024 : Shape := ⟨2, ![32768, 1024]⟩
abbrev S1x16x2048x256 : Shape := ⟨4, ![1, 16, 2048, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S32768x512 : Shape := ⟨2, ![32768, 512]⟩
abbrev S16x2048x512 : Shape := ⟨3, ![16, 2048, 512]⟩
abbrev S512x1024 : Shape := ⟨2, ![512, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S4096x1024 : Shape := ⟨2, ![4096, 1024]⟩
abbrev S16x2048x256 : Shape := ⟨3, ![16, 2048, 256]⟩
abbrev S256x1024 : Shape := ⟨2, ![256, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S512x32768, .bf16⟩
  | .hbm, ⟨2, _⟩ => ⟨S512x32768, .bf16⟩
  | .hbm, ⟨3, _⟩ => ⟨S32768x1024, .bf16⟩
  | .hbm, ⟨4, _⟩ => ⟨S32768x1024, .bf16⟩
  | .hbm, ⟨5, _⟩ => ⟨S1x16x2048x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S512x32768, .f32⟩
  | .hbm, ⟨17, _⟩ => ⟨S32768x512, .f32⟩
  | .hbm, ⟨18, _⟩ => ⟨S16x2048x512, .f32⟩
  | .hbm, ⟨19, _⟩ => ⟨S512x32768, .f32⟩
  | .hbm, ⟨20, _⟩ => ⟨S32768x512, .f32⟩
  | .hbm, ⟨21, _⟩ => ⟨S16x2048x512, .f32⟩
  | .hbm, ⟨22, _⟩ => ⟨S32768x1024, .f32⟩
  | .hbm, ⟨23, _⟩ => ⟨S16x2048x1024, .f32⟩
  | .hbm, ⟨24, _⟩ => ⟨S512x1024, .f32⟩
  | .hbm, ⟨25, _⟩ => ⟨S16x2048x1024, .f32⟩
  | .hbm, ⟨26, _⟩ => ⟨S16x2048x1024, .f32⟩
  | .hbm, ⟨27, _⟩ => ⟨S32768x1024, .f32⟩
  | .hbm, ⟨28, _⟩ => ⟨S16x2048x1024, .f32⟩
  | .hbm, ⟨29, _⟩ => ⟨S512x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S1024x1024, .f32⟩
  | .hbm, ⟨34, _⟩ => ⟨S16x2048x1024, .f32⟩
  | .hbm, ⟨35, _⟩ => ⟨S16x2048x1024, .f32⟩
  | .hbm, ⟨36, _⟩ => ⟨S1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S1024x4096, .f32⟩
  | .hbm, ⟨54, _⟩ => ⟨S16x2048x4096, .f32⟩
  | .hbm, ⟨55, _⟩ => ⟨S_, .f32⟩
  | .hbm, ⟨56, _⟩ => ⟨S16x2048x4096, .f32⟩
  | .hbm, ⟨57, _⟩ => ⟨S16x2048x4096, .f32⟩
  | .hbm, ⟨58, _⟩ => ⟨S16x2048x4096, .f32⟩
  | .hbm, ⟨59, _⟩ => ⟨S4096x1024, .f32⟩
  | .hbm, ⟨60, _⟩ => ⟨S16x2048x1024, .f32⟩
  | .hbm, ⟨61, _⟩ => ⟨S16x2048x1024, .f32⟩
  | .hbm, ⟨62, _⟩ => ⟨S1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S1024x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x2048x1024, .f32⟩
  | .hbm, ⟨88, _⟩ => ⟨S16x2048x1024, .f32⟩
  | .hbm, ⟨89, _⟩ => ⟨S16x2048x256, .f32⟩
  | .hbm, ⟨90, _⟩ => ⟨S256x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S_, .f32⟩
  | .hbm, ⟨96, _⟩ => ⟨S16x2048, .f32⟩
  | .hbm, ⟨97, _⟩ => ⟨S16x2048x1, .f32⟩
  | .hbm, ⟨98, _⟩ => ⟨S_, .f32⟩
  | .hbm, ⟨99, _⟩ => ⟨S16x2048x1, .f32⟩
  | .hbm, ⟨100, _⟩ => ⟨S16x2048x1, .f32⟩
  | .hbm, ⟨101, _⟩ => ⟨S_, .f32⟩
  | .hbm, ⟨102, _⟩ => ⟨S16x2048x1, .f32⟩
  | .hbm, ⟨103, _⟩ => ⟨S16x2048x1, .f32⟩
  | .hbm, ⟨104, _⟩ => ⟨S16x2048x1, .f32⟩
  | .hbm, ⟨105, _⟩ => ⟨S16x2048x1024, .f32⟩
  | .hbm, ⟨106, _⟩ => ⟨S16x2048x1024, .f32⟩
  | .hbm, ⟨107, _⟩ => ⟨S1x1x1024, .f32⟩
  | .hbm, ⟨108, _⟩ => ⟨S16x2048x1024, .f32⟩
  | .hbm, ⟨109, _⟩ => ⟨S16x2048x1024, .f32⟩
  | .hbm, ⟨110, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048 : Shape := ⟨2, ![16, 2048]⟩
abbrev S16 : Shape := ⟨1, ![16]⟩
abbrev S1x1024 : Shape := ⟨2, ![1, 1024]⟩
abbrev S1024x3812 : Shape := ⟨2, ![1024, 3812]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S64 : Shape := ⟨1, ![64]⟩
abbrev S32 : Shape := ⟨1, ![32]⟩
abbrev S1024x64 : Shape := ⟨2, ![1024, 64]⟩
abbrev S1024x32 : Shape := ⟨2, ![1024, 32]⟩
abbrev S4x1024 : Shape := ⟨2, ![4, 1024]⟩
abbrev S32768x1 : Shape := ⟨2, ![32768, 1]⟩
abbrev S128 : Shape := ⟨1, ![128]⟩
abbrev S1x128 : Shape := ⟨2, ![1, 128]⟩
abbrev S32768x1024 : Shape := ⟨2, ![32768, 1024]⟩
abbrev S1024x512 : Shape := ⟨2, ![1024, 512]⟩
abbrev S1024x128 : Shape := ⟨2, ![1024, 128]⟩
abbrev S1024x256 : Shape := ⟨2, ![1024, 256]⟩
abbrev S1024x4 : Shape := ⟨2, ![1024, 4]⟩
abbrev S1024x384 : Shape := ⟨2, ![1024, 384]⟩
abbrev S1024x1024 : Shape := ⟨2, ![1024, 1024]⟩
abbrev S_ : Shape := ⟨0, ![]⟩
abbrev S1024x2176 : Shape := ⟨2, ![1024, 2176]⟩
abbrev S1024x4352 : Shape := ⟨2, ![1024, 4352]⟩
abbrev S128x1024 : Shape := ⟨2, ![128, 1024]⟩
abbrev S8x1024 : Shape := ⟨2, ![8, 1024]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S32768x512 : Shape := ⟨2, ![32768, 512]⟩
abbrev S32768x256 : Shape := ⟨2, ![32768, 256]⟩
abbrev S8x32768 : Shape := ⟨2, ![8, 32768]⟩
abbrev S128x128x256 : Shape := ⟨3, ![128, 128, 256]⟩
abbrev S128x512x256 : Shape := ⟨3, ![128, 512, 256]⟩
abbrev S512x1024 : Shape := ⟨2, ![512, 1024]⟩
abbrev S512x1 : Shape := ⟨2, ![512, 1]⟩
abbrev S512x512 : Shape := ⟨2, ![512, 512]⟩
abbrev S8x512 : Shape := ⟨2, ![8, 512]⟩
abbrev S2x128x256 : Shape := ⟨3, ![2, 128, 256]⟩
abbrev S2x512x256 : Shape := ⟨3, ![2, 512, 256]⟩
abbrev S512 : Shape := ⟨1, ![512]⟩
abbrev S128x512 : Shape := ⟨2, ![128, 512]⟩
abbrev S128x256 : Shape := ⟨2, ![128, 256]⟩
abbrev S1x128x256 : Shape := ⟨3, ![1, 128, 256]⟩
abbrev S512x128 : Shape := ⟨2, ![512, 128]⟩
abbrev S512x384 : Shape := ⟨2, ![512, 384]⟩
abbrev S384x128 : Shape := ⟨2, ![384, 128]⟩
abbrev S256x128 : Shape := ⟨2, ![256, 128]⟩
abbrev S1x512x256 : Shape := ⟨3, ![1, 512, 256]⟩

abbrev nBuf : Space → Nat
  | .hbm => 71
  | .vmem => 36
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S16, .f32⟩
  | .hbm, ⟨3, _⟩ => ⟨S1x1024, .f32⟩
  | .hbm, ⟨4, _⟩ => ⟨S1024x3812, .f32⟩
  | .hbm, ⟨5, _⟩ => ⟨S1x384, .f32⟩
  | .hbm, ⟨6, _⟩ => ⟨S384x768, .f32⟩
  | .hbm, ⟨7, _⟩ => ⟨S1x256, .f32⟩
  | .hbm, ⟨8, _⟩ => ⟨S256x1024, .f32⟩
  | .hbm, ⟨9, _⟩ => ⟨S64, .f32⟩
  | .hbm, ⟨10, _⟩ => ⟨S32, .f32⟩
  | .hbm, ⟨11, _⟩ => ⟨S1024x64, .f32⟩
  | .hbm, ⟨12, _⟩ => ⟨S1024x32, .f32⟩
  | .hbm, ⟨13, _⟩ => ⟨S4x1024, .f32⟩
  | .hbm, ⟨14, _⟩ => ⟨S16x2048, .f32⟩
  | .hbm, ⟨15, _⟩ => ⟨S32768x1, .f32⟩
  | .hbm, ⟨16, _⟩ => ⟨S128, .f32⟩
  | .hbm, ⟨17, _⟩ => ⟨S1x128, .f32⟩
  | .hbm, ⟨18, _⟩ => ⟨S32768x1024, .f32⟩
  | .hbm, ⟨19, _⟩ => ⟨S1024x512, .f32⟩
  | .hbm, ⟨20, _⟩ => ⟨S1024x128, .f32⟩
  | .hbm, ⟨21, _⟩ => ⟨S1024x128, .f32⟩
  | .hbm, ⟨22, _⟩ => ⟨S1024x256, .f32⟩
  | .hbm, ⟨23, _⟩ => ⟨S1024x64, .f32⟩
  | .hbm, ⟨24, _⟩ => ⟨S1024x4, .f32⟩
  | .hbm, ⟨25, _⟩ => ⟨S1024x384, .f32⟩
  | .hbm, ⟨26, _⟩ => ⟨S1024x256, .f32⟩
  | .hbm, ⟨27, _⟩ => ⟨S1024x32, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x2176, .f32⟩
  | .hbm, ⟨35, _⟩ => ⟨S1024x2176, .f32⟩
  | .hbm, ⟨36, _⟩ => ⟨S1024x4352, .f32⟩
  | .hbm, ⟨37, _⟩ => ⟨S1024x4352, .bf16⟩
  | .hbm, ⟨38, _⟩ => ⟨S128x1024, .f32⟩
  | .hbm, ⟨39, _⟩ => ⟨S128x1024, .bf16⟩
  | .hbm, ⟨40, _⟩ => ⟨S4x1024, .f32⟩
  | .hbm, ⟨41, _⟩ => ⟨S8x1024, .f32⟩
  | .hbm, ⟨42, _⟩ => ⟨S8x1024, .bf16⟩
  | .hbm, ⟨43, _⟩ => ⟨S384x8x96, .f32⟩
  | .hbm, ⟨44, _⟩ => ⟨S_, .i32⟩
  | .hbm, ⟨45, _⟩ => ⟨S_, .f32⟩
  | .hbm, ⟨46, _⟩ => ⟨S384x8x128, .f32⟩
  | .hbm, ⟨47, _⟩ => ⟨S384x1024, .f32⟩
  | .hbm, ⟨48, _⟩ => ⟨S384x1024, .bf16⟩
  | .hbm, ⟨49, _⟩ => ⟨S256x8x128, .f32⟩
  | .hbm, ⟨50, _⟩ => ⟨S256x8x64, .f32⟩
  | .hbm, ⟨51, _⟩ => ⟨S_, .i32⟩
  | .hbm, ⟨52, _⟩ => ⟨S_, .f32⟩
  | .hbm, ⟨53, _⟩ => ⟨S256x8x128, .f32⟩
  | .hbm, ⟨54, _⟩ => ⟨S256x1024, .f32⟩
  | .hbm, ⟨55, _⟩ => ⟨S256x1024, .bf16⟩
  | .hbm, ⟨56, _⟩ => ⟨S256x8x64, .f32⟩
  | .hbm, ⟨57, _⟩ => ⟨S256x512, .f32⟩
  | .hbm, ⟨58, _⟩ => ⟨S512x256, .f32⟩
  | .hbm, ⟨59, _⟩ => ⟨S512x256, .bf16⟩
  | .hbm, ⟨60, _⟩ => ⟨S32768x512, .bf16⟩
  | .hbm, ⟨61, _⟩ => ⟨S32768x256, .bf16⟩
  | .hbm, ⟨62, _⟩ => ⟨S32768x1024, .bf16⟩
  | .hbm, ⟨63, _⟩ => ⟨S8x32768, .f32⟩
  | .hbm, ⟨64, _⟩ => ⟨S32768x512, .bf16⟩
  | .hbm, ⟨65, _⟩ => ⟨S32768x256, .bf16⟩
  | .hbm, ⟨66, _⟩ => ⟨S32768x1024, .bf16⟩
  | .hbm, ⟨67, _⟩ => ⟨S128x128x256, .bf16⟩
  | .hbm, ⟨68, _⟩ => ⟨S128x512x256, .bf16⟩
  | .hbm, ⟨69, _⟩ => ⟨S32768x1024, .bf16⟩
  | .hbm, ⟨70, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x128, .f32⟩
  | .local _ .vmem, ⟨5, _⟩ => ⟨S1x1024, .f32⟩
  | .local _ .vmem, ⟨6, _⟩ => ⟨S1024x4352, .bf16⟩
  | .local _ .vmem, ⟨7, _⟩ => ⟨S128x1024, .bf16⟩
  | .local _ .vmem, ⟨8, _⟩ => ⟨S8x1024, .bf16⟩
  | .local _ .vmem, ⟨9, _⟩ => ⟨S1x384, .f32⟩
  | .local _ .vmem, ⟨10, _⟩ => ⟨S384x1024, .bf16⟩
  | .local _ .vmem, ⟨11, _⟩ => ⟨S1x256, .f32⟩
  | .local _ .vmem, ⟨12, _⟩ => ⟨S256x1024, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x1024, .bf16⟩
  | .local _ .vmem, ⟨19, _⟩ => ⟨S512x1024, .bf16⟩
  | .local _ .vmem, ⟨20, _⟩ => ⟨S8x512, .f32⟩
  | .local _ .vmem, ⟨21, _⟩ => ⟨S8x512, .f32⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S512x1024, .bf16⟩
  | .local _ .vmem, ⟨27, _⟩ => ⟨S512x1024, .bf16⟩
  | .local _ .vmem, ⟨28, _⟩ => ⟨S2x128x256, .bf16⟩
  | .local _ .vmem, ⟨29, _⟩ => ⟨S2x128x256, .bf16⟩
  | .local _ .vmem, ⟨30, _⟩ => ⟨S2x512x256, .bf16⟩
  | .local _ .vmem, ⟨31, _⟩ => ⟨S2x512x256, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_call1_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev main_v41_4 : Ref sig .tc := ⟨.hbm, 64, rfl⟩
abbrev main_v41_5 : Ref sig .tc := ⟨.hbm, 65, rfl⟩
abbrev main_v41_6 : Ref sig .tc := ⟨.hbm, 66, rfl⟩
abbrev main_v41_7 : Ref sig .tc := ⟨.hbm, 67, rfl⟩
abbrev main_v41_8 : Ref sig .tc := ⟨.hbm, 68, rfl⟩
abbrev main_v41_9 : Ref sig .tc := ⟨.hbm, 69, rfl⟩
abbrev main_v41_10 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S16x2048x1024 : Shape := ⟨3, ![16, 2048, 1024]⟩
abbrev S16x2048 : Shape := ⟨2, ![16, 2048]⟩
abbrev S16 : Shape := ⟨1, ![16]⟩
abbrev S1x1024 : Shape := ⟨2, ![1, 1024]⟩
abbrev S1024x3812 : Shape := ⟨2, ![1024, 3812]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1024 : Shape := ⟨1, ![1024]⟩
abbrev S_ : Shape := ⟨0, ![]⟩
abbrev S16x2048x1 : Shape := ⟨3, ![16, 2048, 1]⟩
abbrev S1x1x1024 : Shape := ⟨3, ![1, 1, 1024]⟩
abbrev S16x2048x3812 : Shape := ⟨3, ![16, 2048, 3812]⟩
abbrev S16x2048x512 : Shape := ⟨3, ![16, 2048, 512]⟩
abbrev S16x2048x128 : Shape := ⟨3, ![16, 2048, 128]⟩
abbrev S16x2048x256 : Shape := ⟨3, ![16, 2048, 256]⟩
abbrev S16x2048x64 : Shape := ⟨3, ![16, 2048, 64]⟩
abbrev S16x2048x4 : Shape := ⟨3, ![16, 2048, 4]⟩
abbrev S16x2048x384 : Shape := ⟨3, ![16, 2048, 384]⟩
abbrev S16x2048x32 : Shape := ⟨3, ![16, 2048, 32]⟩
abbrev S384 : Shape := ⟨1, ![384]⟩
abbrev S1x1x384 : Shape := ⟨3, ![1, 1, 384]⟩
abbrev S16x2048x768 : Shape := ⟨3, ![16, 2048, 768]⟩
abbrev S16x2048x8x96 : Shape := ⟨4, ![16, 2048, 8, 96]⟩
abbrev S16x2048x8x64 : Shape := ⟨4, ![16, 2048, 8, 64]⟩
abbrev S16x2048x8x32 : Shape := ⟨4, ![16, 2048, 8, 32]⟩
abbrev S16x2048x1x1 : Shape := ⟨4, ![16, 2048, 1, 1]⟩
abbrev S1x1x1x16 : Shape := ⟨4, ![1, 1, 1, 16]⟩
abbrev S16x2048x1x16 : Shape := ⟨4, ![16, 2048, 1, 16]⟩
abbrev S16x2048x8x16 : Shape := ⟨4, ![16, 2048, 8, 16]⟩
abbrev S256 : Shape := ⟨1, ![256]⟩
abbrev S1x1x256 : Shape := ⟨3, ![1, 1, 256]⟩
abbrev S16x2048x8x128 : Shape := ⟨4, ![16, 2048, 8, 128]⟩
abbrev S16x2048x1x32 : Shape := ⟨4, ![16, 2048, 1, 32]⟩
abbrev S16x2048x2x64 : Shape := ⟨4, ![16, 2048, 2, 64]⟩
abbrev S16x2048x8 : Shape := ⟨3, ![16, 2048, 8]⟩
abbrev S32768x512 : Shape := ⟨2, ![32768, 512]⟩
abbrev S32768x256 : Shape := ⟨2, ![32768, 256]⟩
abbrev S32768x1024 : Shape := ⟨2, ![32768, 1024]⟩
abbrev S32768x8 : Shape := ⟨2, ![32768, 8]⟩
abbrev S8x32768 : Shape := ⟨2, ![8, 32768]⟩
abbrev S16x2048x2x256 : Shape := ⟨4, ![16, 2048, 2, 256]⟩
abbrev S128x256x128 : Shape := ⟨3, ![128, 256, 128]⟩
abbrev S128x128x256 : Shape := ⟨3, ![128, 128, 256]⟩
abbrev S128x256x512 : Shape := ⟨3, ![128, 256, 512]⟩
abbrev S128x512x256 : Shape := ⟨3, ![128, 512, 256]⟩

abbrev nBuf : Space → Nat
  | .hbm => 191
  | .vmem => 0
  | .smem => 0
  | _ => 0

abbrev hbmTy0_0 (i : Nat) : BufTy := match i % 128 with
  | 0 => ⟨S16x2048x1024, .f32⟩
  | 1 => ⟨S16x2048, .i32⟩
  | 2 => ⟨S16, .f32⟩
  | 3 => ⟨S1x1024, .f32⟩
  | 4 => ⟨S1024x3812, .f32⟩
  | 5 => ⟨S1x384, .f32⟩
  | 6 => ⟨S384x768, .f32⟩
  | 7 => ⟨S1x256, .f32⟩
  | 8 => ⟨S256x1024, .f32⟩
  | 9 => ⟨S1024, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S16x2048x3812, .f32⟩
  | 27 => ⟨S16x2048x512, .f32⟩
  | 28 => ⟨S16x2048x128, .f32⟩
  | 29 => ⟨S16x2048x128, .f32⟩
  | 30 => ⟨S16x2048x256, .f32⟩
  | 31 => ⟨S16x2048x64, .f32⟩
  | 32 => ⟨S16x2048x4, .f32⟩
  | 33 => ⟨S16x2048x384, .f32⟩
  | 34 => ⟨S16x2048x256, .f32⟩
  | 35 => ⟨S16x2048x32, .f32⟩
  | 36 => ⟨S16x2048x1024, .f32⟩
  | 37 => ⟨S16x2048x1024, .f32⟩
  | 38 => ⟨S384, .f32⟩
  | 39 => ⟨S16x2048x384, .f32⟩
  | 40 => ⟨S_, .f32⟩
  | 41 => ⟨S16x2048, .f32⟩
  | 42 => ⟨S16x2048x1, .f32⟩
  | 43 => ⟨S_, .f32⟩
  | 44 => ⟨S16x2048x1, .f32⟩
  | 45 => ⟨S16x2048x1, .f32⟩
  | 46 => ⟨S_, .f32⟩
  | 47 => ⟨S16x2048x1, .f32⟩
  | 48 => ⟨S16x2048x1, .f32⟩
  | 49 => ⟨S16x2048x1, .f32⟩
  | 50 => ⟨S16x2048x384, .f32⟩
  | 51 => ⟨S16x2048x384, .f32⟩
  | 52 => ⟨S1x1x384, .f32⟩
  | 53 => ⟨S16x2048x384, .f32⟩
  | 54 => ⟨S16x2048x384, .f32⟩
  | 55 => ⟨S16x2048x768, .f32⟩
  | 56 => ⟨S16x2048x8x96, .f32⟩
  | 57 => ⟨S16x2048x8x64, .f32⟩
  | 58 => ⟨S16x2048x8x32, .f32⟩
  | 59 => ⟨S16x2048, .f32⟩
  | 60 => ⟨S16x2048x1x1, .f32⟩
  | 61 => ⟨S1x1x1x16, .f32⟩
  | 62 => ⟨S16x2048x1x16, .f32⟩
  | 63 => ⟨S16x2048x1x16, .f32⟩
  | 64 => ⟨S16x2048x1x16, .f32⟩
  | 65 => ⟨S16x2048x1x16, .f32⟩
  | 66 => ⟨S16x2048x1x16, .f32⟩
  | 67 => ⟨S16x2048x8x16, .f32⟩
  | 68 => ⟨S16x2048x8x16, .f32⟩
  | 69 => ⟨S16x2048x8x16, .f32⟩
  | 70 => ⟨S16x2048x8x16, .f32⟩
  | 71 => ⟨S16x2048x8x16, .f32⟩
  | 72 => ⟨S16x2048x8x16, .f32⟩
  | 73 => ⟨S16x2048x8x16, .f32⟩
  | 74 => ⟨S16x2048x8x16, .f32⟩
  | 75 => ⟨S16x2048x8x16, .f32⟩
  | 76 => ⟨S16x2048x8x16, .f32⟩
  | 77 => ⟨S16x2048x8x16, .f32⟩
  | 78 => ⟨S16x2048x8x16, .f32⟩
  | 79 => ⟨S16x2048x8x32, .f32⟩
  | 80 => ⟨S16x2048x8x96, .f32⟩
  | 81 => ⟨S256, .f32⟩
  | 82 => ⟨S16x2048x256, .f32⟩
  | 83 => ⟨S_, .f32⟩
  | 84 => ⟨S16x2048, .f32⟩
  | 85 => ⟨S16x2048x1, .f32⟩
  | 86 => ⟨S_, .f32⟩
  | 87 => ⟨S16x2048x1, .f32⟩
  | 88 => ⟨S16x2048x1, .f32⟩
  | 89 => ⟨S_, .f32⟩
  | 90 => ⟨S16x2048x1, .f32⟩
  | 91 => ⟨S16x2048x1, .f32⟩
  | 92 => ⟨S16x2048x1, .f32⟩
  | 93 => ⟨S16x2048x256, .f32⟩
  | 94 => ⟨S16x2048x256, .f32⟩
  | 95 => ⟨S1x1x256, .f32⟩
  | 96 => ⟨S16x2048x256, .f32⟩
  | 97 => ⟨S16x2048x256, .f32⟩
  | 98 => ⟨S16x2048x1024, .f32⟩
  | 99 => ⟨S16x2048x8x128, .f32⟩
  | 100 => ⟨S16x2048x1x32, .f32⟩
  | 101 => ⟨S16x2048, .f32⟩
  | 102 => ⟨S16x2048x1x1, .f32⟩
  | 103 => ⟨S1x1x1x16, .f32⟩
  | 104 => ⟨S16x2048x1x16, .f32⟩
  | 105 => ⟨S16x2048x1x16, .f32⟩
  | 106 => ⟨S16x2048x1x16, .f32⟩
  | 107 => ⟨S16x2048x1x16, .f32⟩
  | 108 => ⟨S16x2048x1x16, .f32⟩
  | 109 => ⟨S16x2048x1x16, .f32⟩
  | 110 => ⟨S16x2048x1x16, .f32⟩
  | 111 => ⟨S16x2048x1x16, .f32⟩
  | 112 => ⟨S16x2048x1x16, .f32⟩
  | 113 => ⟨S16x2048x1x16, .f32⟩
  | 114 => ⟨S16x2048x1x16, .f32⟩
  | 115 => ⟨S16x2048x1x16, .f32⟩
  | 116 => ⟨S16x2048x1x16, .f32⟩
  | 117 => ⟨S16x2048x1x32, .f32⟩
  | 118 => ⟨S16x2048x8x32, .f32⟩
  | 119 => ⟨S16x2048x8x64, .f32⟩
  | 120 => ⟨S16x2048x8x96, .f32⟩
  | 121 => ⟨S16x2048x8x64, .f32⟩
  | 122 => ⟨S16x2048x2x64, .f32⟩
  | 123 => ⟨S_, .f32⟩
  | 124 => ⟨S16x2048x4, .f32⟩
  | 125 => ⟨S16x2048x4, .f32⟩
  | 126 => ⟨S_, .f32⟩
  | 127 => ⟨S16x2048x4, .f32⟩
  | _ => ⟨S16x2048x1024, .f32⟩

abbrev hbmTy0_1 (i : Nat) : BufTy := match i % 128 with
  | 0 => ⟨S16x2048x8, .f32⟩
  | 1 => ⟨S_, .f32⟩
  | 2 => ⟨S16x2048x512, .f32⟩
  | 3 => ⟨S16x2048x512, .f32⟩
  | 4 => ⟨S32768x512, .f32⟩
  | 5 => ⟨S32768x512, .bf16⟩
  | 6 => ⟨S32768x256, .f32⟩
  | 7 => ⟨S32768x256, .bf16⟩
  | 8 => ⟨S_, .f32⟩
  | 9 => ⟨S16x2048x8x32, .f32⟩
  | 10 => ⟨S16x2048x8x128, .f32⟩
  | 11 => ⟨S_, .f32⟩
  | 12 => ⟨S16x2048x8x128, .f32⟩
  | 13 => ⟨S16x2048x8x128, .f32⟩
  | 14 => ⟨S32768x1024, .f32⟩
  | 15 => ⟨S32768x1024, .bf16⟩
  | 16 => ⟨S32768x8, .f32⟩
  | 17 => ⟨S8x32768, .f32⟩
  | 18 => ⟨S_, .f32⟩
  | 19 => ⟨S16x2048x2x64, .f32⟩
  | 20 => ⟨S_, .f32⟩
  | 21 => ⟨S16x2048x2x64, .f32⟩
  | 22 => ⟨S16x2048x2x256, .f32⟩
  | 23 => ⟨S32768x512, .f32⟩
  | 24 => ⟨S32768x512, .bf16⟩
  | 25 => ⟨S_, .f32⟩
  | 26 => ⟨S16x2048x64, .f32⟩
  | 27 => ⟨S_, .f32⟩
  | 28 => ⟨S16x2048x64, .f32⟩
  | 29 => ⟨S16x2048x256, .f32⟩
  | 30 => ⟨S32768x256, .f32⟩
  | 31 => ⟨S32768x256, .bf16⟩
  | 32 => ⟨S_, .f32⟩
  | 33 => ⟨S16x2048x8x32, .f32⟩
  | 34 => ⟨S16x2048x8x128, .f32⟩
  | 35 => ⟨S32768x1024, .f32⟩
  | 36 => ⟨S32768x1024, .bf16⟩
  | 37 => ⟨S128x256x128, .f32⟩
  | 38 => ⟨S128x128x256, .f32⟩
  | 39 => ⟨S128x128x256, .bf16⟩
  | 40 => ⟨S128x256x512, .f32⟩
  | 41 => ⟨S128x512x256, .f32⟩
  | 42 => ⟨S128x512x256, .bf16⟩
  | 43 => ⟨S16x2048x1024, .f32⟩
  | 44 => ⟨S16x2048x1024, .f32⟩
  | 45 => ⟨S_, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S32768x1024, .f32⟩
  | 52 => ⟨S32768x1024, .bf16⟩
  | 53 => ⟨S16x2048x1024, .f32⟩
  | 54 => ⟨S16x2048x1024, .f32⟩
  | 55 => ⟨S_, .f32⟩
  | 56 => ⟨S16x2048x1024, .f32⟩
  | 57 => ⟨S16x2048x1024, .f32⟩
  | 58 => ⟨S_, .f32⟩
  | 59 => ⟨S16x2048x1024, .f32⟩
  | 60 => ⟨S16x2048x1024, .f32⟩
  | 61 => ⟨S32768x1024, .f32⟩
  | 62 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_8 : Ref sig .tc := ⟨.hbm, 123, rfl⟩
abbrev main_v105 : Ref sig .tc := ⟨.hbm, 124, rfl⟩
abbrev main_v106 : Ref sig .tc := ⟨.hbm, 125, rfl⟩
abbrev main_cst_9 : Ref sig .tc := ⟨.hbm, 126, rfl⟩
abbrev main_v107 : Ref sig .tc := ⟨.hbm, 127, rfl⟩
abbrev main_v108 : Ref sig .tc := ⟨.hbm, 128, rfl⟩
abbrev main_cst_10 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_11 : Ref sig .tc := ⟨.hbm, 136, rfl⟩
abbrev main_v115 : Ref sig .tc := ⟨.hbm, 137, rfl⟩
abbrev main_v116 : Ref sig .tc := ⟨.hbm, 138, rfl⟩
abbrev main_cst_12 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_13 : Ref sig .tc := ⟨.hbm, 146, rfl⟩
abbrev main_v123 : Ref sig .tc := ⟨.hbm, 147, rfl⟩
abbrev main_cst_14 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_15 : Ref sig .tc := ⟨.hbm, 153, rfl⟩
abbrev main_v128 : Ref sig .tc := ⟨.hbm, 154, rfl⟩
abbrev main_cst_16 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_17 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_18 : Ref sig .tc := ⟨.hbm, 173, rfl⟩
abbrev main_v145 : Ref sig .tc := ⟨.hbm, 174, rfl⟩
abbrev main_v146 : Ref sig .tc := ⟨.hbm, 175, rfl⟩
abbrev main_cst_19 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_cst_20 : Ref sig .tc := ⟨.hbm, 183, rfl⟩
abbrev main_v153 : Ref sig .tc := ⟨.hbm, 184, rfl⟩
abbrev main_v154 : Ref sig .tc := ⟨.hbm, 185, rfl⟩
abbrev main_cst_21 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩

abbrev nD : Nat := 1
abbrev τ : Topo := Topo.v7x

variable {F : FTy → Type} [FloatOps F]
-- ==== Proof.PostRow.lean ====
module
public import Idealize.ShloMosaic.Lib.Pointwise
@[expose] public section
noncomputable section

/-! # One row after the mixers

Everything the layer does after its two token mixers acts on the rows of the activations one by one. This module says what
happens to one row, over the extended reals, and proves the only rearrangement the kernel makes: the hidden units of the
feed-forward part are summed in four runs of 1024. -/

namespace Cert.Proof.Post

open Idealize.ShloMosaic

/-- What one token brings: the two mixers' outputs, their gates, the residual input and the per-layer input row. -/
structure Token where
  /-- output of the first mixer -/
  ya : Fin 512 → EReal
  /-- output of the second mixer -/
  yb : Fin 512 → EReal
  /-- gate of the first mixer -/
  sa : Fin 1024 → EReal
  /-- gate of the second mixer -/
  sb : Fin 1024 → EReal
  /-- the residual input -/
  x : Fin 1024 → EReal
  /-- the per-layer input -/
  p : Fin 256 → EReal

/-- The weights every token meets. -/
structure Weights where
  /-- projection of the first mixer's output -/
  pa : Fin 512 → Fin 1024 → EReal
  /-- projection of the second mixer's output -/
  pb : Fin 512 → Fin 1024 → EReal
  /-- output projection of the merged mixers -/
  out : Fin 1024 → Fin 1024 → EReal
  /-- gain before the feed-forward part -/
  gm : Fin 1024 → EReal
  /-- first feed-forward matrix -/
  w1 : Fin 1024 → Fin 4096 → EReal
  /-- second feed-forward matrix -/
  w2 : Fin 4096 → Fin 1024 → EReal
  /-- gain before the per-layer input's gate -/
  gp : Fin 1024 → EReal
  /-- gate matrix of the per-layer input -/
  wg : Fin 1024 → Fin 1024 → EReal
  /-- projection of the per-layer input -/
  wp : Fin 256 → Fin 1024 → EReal
  /-- gain of the last normalisation -/
  gf : Fin 1024 → EReal

/-- Root-mean-square normalisation of a row with a gain. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- The residual plus the gated, merged and projected mixers. -/
def mix (T : Token) (W : Weights) (j : Fin 1024) : EReal :=
  T.x j + ∑ k, (T.sa k * ∑ i, T.ya i * W.pa i k + T.sb k * ∑ i, T.yb i * W.pb i k) * W.out k j

/-- The squared positive part of hidden unit `k` of a normalised row. -/
def hidden (W : Weights) (n : Fin 1024 → EReal) (k : Fin 4096) : EReal :=
  max (∑ i, n i * W.w1 i k) 0 * max (∑ i, n i * W.w1 i k) 0

/-- The feed-forward part: the hidden units against the second matrix. -/
def ff (W : Weights) (n : Fin 1024 → EReal) (j : Fin 1024) : EReal :=
  ∑ k, hidden W n k * W.w2 k j

/-- The row after the feed-forward part. -/
def afterFf (T : Token) (W : Weights) (j : Fin 1024) : EReal :=
  mix T W j + ff W (rms (mix T W) W.gm) j

/-- The row after the gated per-layer input. -/
def afterPle (T : Token) (W : Weights) (j : Fin 1024) : EReal :=
  afterFf T W j + Ideal.logistic (∑ i, rms (afterFf T W) W.gp i * W.wg i j) * ∑ i, T.p i * W.wp i j

/-- The finished row. -/
def row (T : Token) (W : Weights) : Fin 1024 → EReal := rms (afterPle T W) W.gf

/-- Hidden unit `k` of run `c` of the four runs of 1024. -/
def unit (c : Fin 4) (k : Fin 1024) : Fin 4096 := ⟨1024 * c.val + k.val, by have := c.isLt; have := k.isLt; omega⟩

/-- A sum over the 4096 hidden units is the sum of its four runs. -/
theorem sum_units (f : Fin 4096 → EReal) :
    ∑ k, f k = ∑ k, f (unit 0 k) + ∑ k, f (unit 1 k) + ∑ k, f (unit 2 k) + ∑ k, f (unit 3 k) := by
  rw [show (∑ k, f k) = ∑ k : Fin (1024 + 1024 + 1024 + 1024), f k from rfl, Fin.sum_univ_add, Fin.sum_univ_add,
    Fin.sum_univ_add]
  refine congrArg₂ _ (congrArg₂ _ (congrArg₂ _ ?_ ?_) ?_) ?_ <;>
    exact Finset.sum_congr rfl fun k _ => congrArg f (Fin.ext (by simp [unit, Nat.add_comm]))

end Cert.Proof.Post

end
-- ==== Proof.PostBlock.lean ====
module
public import proofs.«01_k».proof.Proof.PostRow
public import proofs.«01_k».proof.Proof.Gen.KernelIdeal.Value
public import Idealize.ShloMosaic.Lib.MatmulPlain
@[expose] public section
noncomputable section

/-! # What one block of the kernel computes

The kernel's grid point reads 512 rows of the activations and every weight, and writes 512 finished rows. Here its payloads
are read at one index, and the row written is shown to be `Post.row` of the rows read. -/

namespace Cert.Proof.Post

open Cert.KernelIdeal Cert.KernelIdeal.Gen Idealize.ShloMosaic

/-- The token in row `r` of the blocks read. -/
abbrev blockToken (x0 : Vec Ideal S512x1024 .f32) (x1 x2 : Vec Ideal S512x512 .bf16) (x3 x4 : Vec Ideal S512x1024 .bf16)
    (x5 : Vec Ideal S512x256 .f32) (r : Fin 512) : Token where
  ya i := x1 (ix2 i r)
  yb i := x2 (ix2 i r)
  sa k := x3 (ix2 r k)
  sb k := x4 (ix2 r k)
  x k := x0 (ix2 r k)
  p i := x5 (ix2 r i)

/-- The weights in the blocks read. -/
abbrev blockWeights (x6 x7 : Vec Ideal S512x1024 .bf16) (x8 : Vec Ideal S1024x1024 .bf16) (x9 : Vec Ideal S1x1024 .f32)
    (x10 : Vec Ideal S1024x4096 .bf16) (x11 : Vec Ideal S4096x1024 .bf16) (x12 : Vec Ideal S1x1024 .f32)
    (x13 : Vec Ideal S1024x1024 .bf16) (x14 : Vec Ideal S256x1024 .bf16) (x15 : Vec Ideal S1x1024 .f32) : Weights where
  pa i k := x6 (ix2 i k)
  pb i k := x7 (ix2 i k)
  out i k := x8 (ix2 i k)
  gm k := x9 (ix2 0 k)
  w1 i k := x10 (ix2 i k)
  w2 i k := x11 (ix2 i k)
  gp k := x12 (ix2 0 k)
  wg i k := x13 (ix2 i k)
  wp i k := x14 (ix2 i k)
  gf k := x15 (ix2 0 k)

/-- The last normalisation at an index. -/
theorem pay1_apply (v : FVec Ideal S512x1024 .f32) (g : Vec Ideal S1x1024 .f32) (r : Fin 512) (j : Fin 1024) :
    k0_pay1 v g (ix2 r j) = rms (fun k => v (ix2 r k)) (fun k => g (ix2 0 k)) j := by
  pointwise [k0_pay1]
  rfl

/-- The normalisation before the feed-forward part, at an index. -/
theorem norm_apply (v0 : Vec Ideal S512x512 .bf16) (v1 : Vec Ideal S512x1024 .bf16) (v4 : Vec Ideal S512x512 .bf16)
    (v5 v8 v11 : Vec Ideal S512x1024 .bf16) (v15 : Vec Ideal S512x1024 .f32) (v18 : Vec Ideal S1024x1024 .bf16)
    (g : Vec Ideal S1x1024 .f32) (r : Fin 512) (j : Fin 1024) :
    k0_pay3 v0 v1 v4 v5 v8 v11 v15 v18 (ix2 r j) * k0_pay4 g (ix2 r j)
      = rms (fun k => k0_pay2 v0 v1 v4 v5 v8 v11 v15 v18 (ix2 r k)) (fun k => g (ix2 0 k)) j := by
  unfold k0_pay3
  generalize k0_pay2 v0 v1 v4 v5 v8 v11 v15 v18 = v
  pointwise [k0_pay4]
  rfl

/-- A run of 1024 hidden units: the squared positive parts against the second matrix. -/
abbrev runOf (n : Fin 1024 → EReal) (a b : Vec Ideal S1024x1024 .bf16) (j : Fin 1024) : EReal :=
  ∑ k, max (∑ i, n i * a (ix2 i k)) 0 * max (∑ i, n i * a (ix2 i k)) 0 * b (ix2 k j)

/-- The first three runs at an index. -/
theorem pay6_apply (v33 v34 : FVec Ideal S512x1024 .f32) (a0 b0 a1 b1 a2 b2 : Vec Ideal S1024x1024 .bf16) (r : Fin 512)
    (j : Fin 1024) : k0_pay6 v33 v34 a0 b0 a1 b1 a2 b2 (ix2 r j)
      = runOf (fun i => v33 (ix2 r i) * v34 (ix2 r i)) a0 b0 j + runOf (fun i => v33 (ix2 r i) * v34 (ix2 r i)) a1 b1 j
        + runOf (fun i => v33 (ix2 r i) * v34 (ix2 r i)) a2 b2 j := by
  pointwise [k0_pay6, k0_pay5]

/-- The normalised row handed to the last run, at an index. -/
theorem pay5_apply (v33 v34 : FVec Ideal S512x1024 .f32) (r : Fin 512) (j : Fin 1024) :
    k0_pay5 v33 v34 (ix2 r j) = v33 (ix2 r j) * v34 (ix2 r j) := by
  pointwise [k0_pay5]

/-- The row with all four runs added. -/
abbrev ffRow (v21 : FVec Ideal S512x1024 .f32) (v36 : FVec Ideal S512x1024 .bf16) (v70 : FVec Ideal S512x1024 .f32)
    (a3 b3 : Vec Ideal S1024x1024 .bf16) (r : Fin 512) (j : Fin 1024) : EReal :=
  v21 (ix2 r j) + (v70 (ix2 r j) + runOf (fun i => v36 (ix2 r i)) a3 b3 j)

/-- The row after the per-layer input, at an index. -/
theorem pay7_apply (v21 : FVec Ideal S512x1024 .f32) (v36 : FVec Ideal S512x1024 .bf16) (v70 : FVec Ideal S512x1024 .f32)
    (a3 b3 : Vec Ideal S1024x1024 .bf16) (g : Vec Ideal S1x1024 .f32) (wg : Vec Ideal S1024x1024 .bf16)
    (p : Vec Ideal S512x256 .f32) (wp : Vec Ideal S256x1024 .bf16) (r : Fin 512) (j : Fin 1024) :
    k0_pay7 v21 v36 v70 a3 b3 g wg p wp (ix2 r j)
      = ffRow v21 v36 v70 a3 b3 r j
        + Ideal.logistic (∑ i, rms (ffRow v21 v36 v70 a3 b3 r) (fun k => g (ix2 0 k)) i * wg (ix2 i j))
          * ∑ i, p (ix2 r i) * wp (ix2 i j) := by
  pointwise [k0_pay7]
  rfl

/-- The row after the mixers, at an index. -/
theorem pay2_apply (v0 : Vec Ideal S512x512 .bf16) (v1 : Vec Ideal S512x1024 .bf16) (v4 : Vec Ideal S512x512 .bf16)
    (v5 v8 v11 : Vec Ideal S512x1024 .bf16) (v15 : Vec Ideal S512x1024 .f32) (v18 : Vec Ideal S1024x1024 .bf16)
    (r : Fin 512) (j : Fin 1024) : k0_pay2 v0 v1 v4 v5 v8 v11 v15 v18 (ix2 r j)
      = v15 (ix2 r j) + ∑ k, (v8 (ix2 r k) * ∑ i, v0 (ix2 i r) * v1 (ix2 i k)
          + v11 (ix2 r k) * ∑ i, v4 (ix2 i r) * v5 (ix2 i k)) * v18 (ix2 k j) := by
  pointwise [k0_pay2]

/-- A load of run `c` of the first feed-forward matrix's columns, at an index. -/
theorem ld_w1 (x : Vec Ideal S1024x4096 .bf16) (c : Fin 4) (o : Fin 2 → Nat) (ho : o = ![0, 1024 * c.val])
    (inb : ∀ a, o a + S1024x1024.size a ≤ S1024x4096.size a) (i k : Fin 1024) :
    View.ld x (Rect.unit (s := S1024x4096) o S1024x1024.size inb) (ix2 i k) = x (ix2 i (unit c k)) := by
  subst ho
  refine congrArg x (funext fun a => Fin.ext ?_)
  match a with
  | ⟨0, _⟩ => show 0 + 1 * i.val = i.val; omega
  | ⟨1, _⟩ => show 1024 * c.val + 1 * k.val = 1024 * c.val + k.val; omega

/-- A load of run `c` of the second feed-forward matrix's rows, at an index. -/
theorem ld_w2 (x : Vec Ideal S4096x1024 .bf16) (c : Fin 4) (o : Fin 2 → Nat) (ho : o = ![1024 * c.val, 0])
    (inb : ∀ a, o a + S1024x1024.size a ≤ S4096x1024.size a) (k j : Fin 1024) :
    View.ld x (Rect.unit (s := S4096x1024) o S1024x1024.size inb) (ix2 k j) = x (ix2 (unit c k) j) := by
  subst ho
  refine congrArg x (funext fun a => Fin.ext ?_)
  match a with
  | ⟨0, _⟩ => show 1024 * c.val + 1 * k.val = 1024 * c.val + k.val; omega
  | ⟨1, _⟩ => show 0 + 1 * j.val = j.val; omega

/-- Run `c` of the hidden units, over the loads of the two matrices. -/
theorem runOf_ld (W : Weights) (n : Fin 1024 → EReal) (x10 : Vec Ideal S1024x4096 .bf16) (x11 : Vec Ideal S4096x1024 .bf16)
    (h1 : W.w1 = fun i k => x10 (ix2 i k)) (h2 : W.w2 = fun i k => x11 (ix2 i k)) (c : Fin 4) (o1 o2 : Fin 2 → Nat)
    (ho1 : o1 = ![0, 1024 * c.val]) (ho2 : o2 = ![1024 * c.val, 0])
    (inb1 : ∀ a, o1 a + S1024x1024.size a ≤ S1024x4096.size a) (inb2 : ∀ a, o2 a + S1024x1024.size a ≤ S4096x1024.size a)
    (j : Fin 1024) :
    runOf n (View.ld x10 (Rect.unit (s := S1024x4096) o1 S1024x1024.size inb1))
        (View.ld x11 (Rect.unit (s := S4096x1024) o2 S1024x1024.size inb2)) j
      = ∑ k, hidden W n (unit c k) * W.w2 (unit c k) j := by
  refine Finset.sum_congr rfl fun k _ => ?_
  unfold hidden
  rw [h1, h2]
  simp only [ld_w1 x10 c o1 ho1 inb1, ld_w2 x11 c o2 ho2 inb2]

/-- THE BLOCK: row `r` of what a grid point writes is the finished row of row `r` of what it reads. -/
theorem out_apply (x0 : Vec Ideal S512x1024 .f32) (x1 x2 : Vec Ideal S512x512 .bf16) (x3 x4 : Vec Ideal S512x1024 .bf16)
    (x5 : Vec Ideal S512x256 .f32) (x6 x7 : Vec Ideal S512x1024 .bf16) (x8 : Vec Ideal S1024x1024 .bf16)
    (x9 : Vec Ideal S1x1024 .f32) (x10 : Vec Ideal S1024x4096 .bf16) (x11 : Vec Ideal S4096x1024 .bf16)
    (x12 : Vec Ideal S1x1024 .f32) (x13 : Vec Ideal S1024x1024 .bf16) (x14 : Vec Ideal S256x1024 .bf16)
    (x15 : Vec Ideal S1x1024 .f32) (r : Fin 512) (j : Fin 1024) :
    out0_16 x0 x1 x2 x3 x4 x5 x6 x7 x8 x9 x10 x11 x12 x13 x14 x15 (ix2 r j)
      = row (blockToken x0 x1 x2 x3 x4 x5 r) (blockWeights x6 x7 x8 x9 x10 x11 x12 x13 x14 x15) j := by
  have z : (![0, 0] : Fin 2 → Nat) = fun _ => 0 := by
    funext a
    match a with
    | ⟨0, _⟩ => rfl
    | ⟨1, _⟩ => rfl
  unfold out0_16 k0_pay8 k0_pay9
  rw [View.canon_unit_zero z]
  simp only [View.ld_unit_zero (S := S512x512) z, View.ld_unit_zero (S := S512x1024) z, View.ld_unit_zero (S := S1024x1024) z,
    View.ld_unit_zero (S := S1x1024) z, View.ld_unit_zero (S := S512x256) z, View.ld_unit_zero (S := S256x1024) z]
  generalize hT : blockToken x0 x1 x2 x3 x4 x5 r = T
  generalize hW : blockWeights x6 x7 x8 x9 x10 x11 x12 x13 x14 x15 = W
  have hmix : (fun k => k0_pay2 x1 x6 x2 x7 x3 x4 x0 x8 (ix2 r k)) = mix T W := by
    subst hT hW
    exact funext fun k => pay2_apply ..
  have hn : (fun i => k0_pay3 x1 x6 x2 x7 x3 x4 x0 x8 (ix2 r i) * k0_pay4 x9 (ix2 r i)) = rms (mix T W) W.gm := by
    subst hW
    rw [← hmix]
    exact funext fun k => norm_apply ..
  have h5 : (fun i => k0_pay5 (k0_pay3 x1 x6 x2 x7 x3 x4 x0 x8) (k0_pay4 x9) (ix2 r i)) = rms (mix T W) W.gm := by
    rw [← hn]
    exact funext fun k => pay5_apply ..
  have h1 : W.w1 = fun i k => x10 (ix2 i k) := by subst hW; rfl
  have h2 : W.w2 = fun i k => x11 (ix2 i k) := by subst hW; rfl
  have hff : ffRow (k0_pay2 x1 x6 x2 x7 x3 x4 x0 x8) (k0_pay5 (k0_pay3 x1 x6 x2 x7 x3 x4 x0 x8) (k0_pay4 x9))
      (k0_pay6 (k0_pay3 x1 x6 x2 x7 x3 x4 x0 x8) (k0_pay4 x9) (View.ld x10 r0_4) (View.ld x11 r0_5) (View.ld x10 r0_6)
        (View.ld x11 r0_7) (View.ld x10 r0_8) (View.ld x11 r0_9)) (View.ld x10 r0_10) (View.ld x11 r0_11) r
      = afterFf T W := by
    funext k
    unfold ffRow afterFf ff
    rw [pay6_apply, hn, h5, sum_units]
    exact congrArg₂ (· + ·) (congrFun hmix k) (congrArg₂ (· + ·) (congrArg₂ (· + ·) (congrArg₂ (· + ·)
      (runOf_ld W _ x10 x11 h1 h2 0 _ _ rfl rfl _ _ k) (runOf_ld W _ x10 x11 h1 h2 1 _ _ rfl rfl _ _ k))
      (runOf_ld W _ x10 x11 h1 h2 2 _ _ rfl rfl _ _ k)) (runOf_ld W _ x10 x11 h1 h2 3 _ _ rfl rfl _ _ k))
  rw [pay1_apply]
  unfold row
  have hple : (fun k => k0_pay7 (k0_pay2 x1 x6 x2 x7 x3 x4 x0 x8) (k0_pay5 (k0_pay3 x1 x6 x2 x7 x3 x4 x0 x8) (k0_pay4 x9))
      (k0_pay6 (k0_pay3 x1 x6 x2 x7 x3 x4 x0 x8) (k0_pay4 x9) (View.ld x10 r0_4) (View.ld x11 r0_5) (View.ld x10 r0_6)
        (View.ld x11 r0_7) (View.ld x10 r0_8) (View.ld x11 r0_9)) (View.ld x10 r0_10) (View.ld x11 r0_11) x12 x13 x5 x14
      (ix2 r k)) = afterPle T W := by
    funext k
    rw [pay7_apply, hff]
    subst hT hW
    rfl
  rw [hple]
  subst hW
  rfl

end Cert.Proof.Post

end
-- ==== Proof.PostReads.lean ====
module
public import proofs.«01_k».proof.Proof.PostBlock
public import Idealize.ShloMosaic.Lib.Pipeline.ValueKit
@[expose] public section
noncomputable section

/-! # What the blocks read are

The blocks a grid point reads are traced back to the arguments: the token blocks are 512 consecutive rows, the weight blocks
are the whole weights. -/

namespace Cert.Proof.Post

open Cert.KernelIdeal Cert.KernelIdeal.Gen Idealize.ShloMosaic Idealize.ShloMosaic.TcCoe Idealize.SL.Sem

/-- The batch of flat row `g`. -/
abbrev bat (g : Fin 32768) : Fin 16 := ⟨g.val / 2048, by have := g.isLt; omega⟩
/-- The position of flat row `g` in its batch. -/
abbrev pos (g : Fin 32768) : Fin 2048 := ⟨g.val % 2048, by omega⟩

/-- Token `g` of the arguments. -/
abbrev argToken (a0 : Vec Ideal S16x2048x1024 .f32) (a1 a2 : Vec Ideal S512x32768 .bf16) (a3 a4 : Vec Ideal S32768x1024 .bf16)
    (a5 : Vec Ideal S1x16x2048x256 .f32) (g : Fin 32768) : Token where
  ya i := a1 (ix2 i g)
  yb i := a2 (ix2 i g)
  sa k := a3 (ix2 g k)
  sb k := a4 (ix2 g k)
  x k := a0 (ix3 (bat g) (pos g) k)
  p i := a5 (ix4 0 (bat g) (pos g) i)

/-- The weights of the arguments. -/
abbrev argWeights (a6 a7 : Vec Ideal S1x512x1024 .f32) (a8 : Vec Ideal S1x1024x1024 .f32) (a9 : Vec Ideal S1x1024 .f32)
    (a10 : Vec Ideal S1x1024x4096 .f32) (a11 : Vec Ideal S1x4096x1024 .f32) (a12 : Vec Ideal S1x1024 .f32)
    (a13 : Vec Ideal S1x1024x1024 .f32) (a14 : Vec Ideal S1x256x1024 .f32) (a15 : Vec Ideal S1024 .f32) : Weights where
  pa i k := a6 (ix3 0 i k)
  pb i k := a7 (ix3 0 i k)
  out i k := a8 (ix3 0 i k)
  gm k := a9 (ix2 0 k)
  w1 i k := a10 (ix3 0 i k)
  w2 i k := a11 (ix3 0 i k)
  gp k := a12 (ix2 0 k)
  wg i k := a13 (ix3 0 i k)
  wp i k := a14 (ix3 0 i k)
  gf k := a15 (ix1 k)

variable (m : (ℓ : Loc nD τ sig) → Buf (Elt Ideal) ℓ)

/-- The placement of the token blocks: rows by the grid point, or columns for the two arrays stored transposed. -/
theorem idx_rows : ∀ t : Fin cfg0.N, win0_0.index t 0 = t.val ∧ win0_0.index t 1 = 0 ∧ win0_1.index t 0 = 0 ∧ win0_1.index t 1 = t.val
    ∧ win0_2.index t 0 = 0 ∧ win0_2.index t 1 = t.val ∧ win0_3.index t 0 = t.val ∧ win0_3.index t 1 = 0
    ∧ win0_4.index t 0 = t.val ∧ win0_4.index t 1 = 0 ∧ win0_5.index t 0 = t.val ∧ win0_5.index t 1 = 0
    ∧ win0_16.index t 0 = t.val ∧ win0_16.index t 1 = 0 :=
  (by decide +kernel : ∀ t : Fin grid0.N, win0_0.index t 0 = t.val ∧ win0_0.index t 1 = 0 ∧ win0_1.index t 0 = 0 ∧ win0_1.index t 1 = t.val
    ∧ win0_2.index t 0 = 0 ∧ win0_2.index t 1 = t.val ∧ win0_3.index t 0 = t.val ∧ win0_3.index t 1 = 0
    ∧ win0_4.index t 0 = t.val ∧ win0_4.index t 1 = 0 ∧ win0_5.index t 0 = t.val ∧ win0_5.index t 1 = 0
    ∧ win0_16.index t 0 = t.val ∧ win0_16.index t 1 = 0)

/-- The weight blocks are whole: their index never moves. -/
theorem idx_whole : ∀ t : Fin cfg0.N, ∀ a : Fin 2, win0_6.index t a = 0 ∧ win0_7.index t a = 0 ∧ win0_8.index t a = 0 ∧ win0_9.index t a = 0
    ∧ win0_10.index t a = 0 ∧ win0_11.index t a = 0 ∧ win0_12.index t a = 0 ∧ win0_13.index t a = 0 ∧ win0_14.index t a = 0
    ∧ win0_15.index t a = 0 :=
  (by decide +kernel : ∀ t : Fin grid0.N, ∀ a : Fin 2, win0_6.index t a = 0 ∧ win0_7.index t a = 0 ∧ win0_8.index t a = 0 ∧ win0_9.index t a = 0
    ∧ win0_10.index t a = 0 ∧ win0_11.index t a = 0 ∧ win0_12.index t a = 0 ∧ win0_13.index t a = 0 ∧ win0_14.index t a = 0
    ∧ win0_15.index t a = 0)

/-- The flat row that row `r` of point `t`'s blocks is. -/
abbrev flat (t : Fin cfg0.N) (r : Fin 512) : Fin 32768 :=
  ⟨512 * t.val + r.val, by have h : t.val < 64 := t.isLt; have := r.isLt; omega⟩

/-- Window 0's block, at an index. -/
theorem iblk_0 (c : Dev nD) (t : Fin cfg0.N) (r : Fin 512) (k : Fin 1024) :
    iblk m c 0 t (ix2 r k) = m ((c : Thread nD τ).loc main_arg0) (ix3 (bat (flat t r)) (pos (flat t r)) k) := by
  blk_ext! [iblk, V, idx_rows t]

/-- Window 1's block, at an index. -/
theorem iblk_1 (c : Dev nD) (t : Fin cfg0.N) (i r : Fin 512) :
    iblk m c 1 t (ix2 i r) = m ((c : Thread nD τ).loc main_arg1) (ix2 i (flat t r)) := by
  blk_ext! [iblk, V, idx_rows t]

/-- Window 2's block, at an index. -/
theorem iblk_2 (c : Dev nD) (t : Fin cfg0.N) (i r : Fin 512) :
    iblk m c 2 t (ix2 i r) = m ((c : Thread nD τ).loc main_arg2) (ix2 i (flat t r)) := by
  blk_ext! [iblk, V, idx_rows t]

/-- Window 3's block, at an index. -/
theorem iblk_3 (c : Dev nD) (t : Fin cfg0.N) (r : Fin 512) (k : Fin 1024) :
    iblk m c 3 t (ix2 r k) = m ((c : Thread nD τ).loc main_arg3) (ix2 (flat t r) k) := by
  blk_ext! [iblk, V, idx_rows t]

/-- Window 4's block, at an index. -/
theorem iblk_4 (c : Dev nD) (t : Fin cfg0.N) (r : Fin 512) (k : Fin 1024) :
    iblk m c 4 t (ix2 r k) = m ((c : Thread nD τ).loc main_arg4) (ix2 (flat t r) k) := by
  blk_ext! [iblk, V, idx_rows t]

/-- Window 5's block, at an index. -/
theorem iblk_5 (c : Dev nD) (t : Fin cfg0.N) (r : Fin 512) (k : Fin 256) :
    iblk m c 5 t (ix2 r k) = m ((c : Thread nD τ).loc main_arg5) (ix4 0 (bat (flat t r)) (pos (flat t r)) k) := by
  blk_ext! [iblk, V, idx_rows t]

/-- Window 6's block, at an index. -/
theorem iblk_6 (c : Dev nD) (t : Fin cfg0.N) (i : Fin 512) (k : Fin 1024) :
    iblk m c 6 t (ix2 i k) = m ((c : Thread nD τ).loc main_arg6) (ix3 0 i k) := by
  blk_ext! [iblk, V, idx_whole t]

/-- Window 7's block, at an index. -/
theorem iblk_7 (c : Dev nD) (t : Fin cfg0.N) (i : Fin 512) (k : Fin 1024) :
    iblk m c 7 t (ix2 i k) = m ((c : Thread nD τ).loc main_arg7) (ix3 0 i k) := by
  blk_ext! [iblk, V, idx_whole t]

/-- Window 8's block, at an index. -/
theorem iblk_8 (c : Dev nD) (t : Fin cfg0.N) (i : Fin 1024) (k : Fin 1024) :
    iblk m c 8 t (ix2 i k) = m ((c : Thread nD τ).loc main_arg8) (ix3 0 i k) := by
  blk_ext! [iblk, V, idx_whole t]

/-- Window 10's block, at an index. -/
theorem iblk_10 (c : Dev nD) (t : Fin cfg0.N) (i : Fin 1024) (k : Fin 4096) :
    iblk m c 10 t (ix2 i k) = m ((c : Thread nD τ).loc main_arg10) (ix3 0 i k) := by
  blk_ext! [iblk, V, idx_whole t]

/-- Window 11's block, at an index. -/
theorem iblk_11 (c : Dev nD) (t : Fin cfg0.N) (i : Fin 4096) (k : Fin 1024) :
    iblk m c 11 t (ix2 i k) = m ((c : Thread nD τ).loc main_arg11) (ix3 0 i k) := by
  blk_ext! [iblk, V, idx_whole t]

/-- Window 13's block, at an index. -/
theorem iblk_13 (c : Dev nD) (t : Fin cfg0.N) (i : Fin 1024) (k : Fin 1024) :
    iblk m c 13 t (ix2 i k) = m ((c : Thread nD τ).loc main_arg13) (ix3 0 i k) := by
  blk_ext! [iblk, V, idx_whole t]

/-- Window 14's block, at an index. -/
theorem iblk_14 (c : Dev nD) (t : Fin cfg0.N) (i : Fin 256) (k : Fin 1024) :
    iblk m c 14 t (ix2 i k) = m ((c : Thread nD τ).loc main_arg14) (ix3 0 i k) := by
  blk_ext! [iblk, V, idx_whole t]

/-- Window 9's block, at an index. -/
theorem iblk_9 (c : Dev nD) (t : Fin cfg0.N) (k : Fin 1024) :
    iblk m c 9 t (ix2 0 k) = m ((c : Thread nD τ).loc main_arg9) (ix2 0 k) := by
  blk_ext! [iblk, V, idx_whole t]

/-- Window 12's block, at an index. -/
theorem iblk_12 (c : Dev nD) (t : Fin cfg0.N) (k : Fin 1024) :
    iblk m c 12 t (ix2 0 k) = m ((c : Thread nD τ).loc main_arg12) (ix2 0 k) := by
  blk_ext! [iblk, V, idx_whole t]

/-- Window 15's block, at an index. -/
theorem iblk_15 (c : Dev nD) (t : Fin cfg0.N) (k : Fin 1024) :
    iblk m c 15 t (ix2 0 k) = m ((c : Thread nD τ).loc main_arg15) (ix1 k) := by
  blk_ext! [iblk, V, idx_whole t]

end Cert.Proof.Post

end
-- ==== Proof.PostArray.lean ====
module
public import proofs.«01_k».proof.Proof.PostReads
public import Idealize.ShloMosaic.Lib.Pipeline.ValueKit
@[expose] public section
noncomputable section

/-! # What the kernel's result array holds

Row `g` of the array after the run is `Post.row` of the arguments' row `g`: the blocks written tile the array. -/

namespace Cert.Proof.Post

open Cert.KernelIdeal Cert.KernelIdeal.Gen Idealize.ShloMosaic Idealize.ShloMosaic.TcCoe Idealize.SL.Sem

variable (m : (ℓ : Loc nD τ sig) → Buf (Elt Ideal) ℓ)

/-- THE RESULT ARRAY: row `g` is the finished row of token `g` of the arguments. -/
def result (c : Dev nD) : Buf (Elt Ideal) ((c : Thread nD τ).loc main_v22) := fun i =>
  row (argToken (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0))
    (argWeights (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15))) (i 1)

/-- What a grid point writes, at an index of its block, is the result array's row there. -/
theorem out_eq_result (c : Dev nD) (t : Fin cfg0.N) (r : Fin 512) (j : Fin 1024) :
    out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (ix2 r j) = result m c (ix2 (flat t r) j) := by
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) r j).trans ?_
  unfold blockToken blockWeights result
  simp only [iblk_0, iblk_1, iblk_2, iblk_3, iblk_4, iblk_5, iblk_6, iblk_7, iblk_8, iblk_9, iblk_10, iblk_11, iblk_12,
    iblk_13, iblk_14, iblk_15]
  rfl

/-- The output's blocks cover the array, so the array after the run is `result`. -/
theorem arr_eq_result (c : Dev nD) : (dats m 0 c).arrAt 16 cfg0.N = result m c := by
  refine (dats m 0 c).arrAt_eq_of_covers 16 (result m c) (by decide +kernel) fun t hf y => ?_
  rw [after0_16]
  blk_simp [idx_rows t]
  rw [show y = ix2 (y 0) (y 1) from eq_ix2 y]
  refine (out_eq_result m c t (y 0) (y 1)).trans (congrArg (result m c) (funext fun a => Fin.ext ?_))
  match a with
  | ⟨0, _⟩ => show 512 * t.val + (y 0).val = win0_16.index t 0 * 512 + 1 * (y 0).val; rw [(idx_rows t).2.2.2.2.2.2.2.2.2.2.2.2.1]; omega
  | ⟨1, _⟩ => show (y 1).val = win0_16.index t 1 * 1024 + 1 * (y 1).val; rw [(idx_rows t).2.2.2.2.2.2.2.2.2.2.2.2.2]; omega

end Cert.Proof.Post

end
-- ==== Proof.PostRef.lean ====
module
public import proofs.«01_k».proof.Proof.PostReads
public import proofs.«01_k».proof.Proof.Gen.ReferenceIdeal.Read
@[expose] public section
noncomputable section

/-! # What the reference computes

The reference's arrays, read at one token, are the same row functions: `mix`, `afterFf`, `afterPle`, `row`. -/

namespace Cert.Proof.Post

open Cert.ReferenceIdeal Cert.ReferenceIdeal.Gen Cert.ReferenceIdeal.Read Idealize.ShloMosaic

variable (x0 : (⟨S16x2048x1024, .f32⟩ : BufTy).Contents (Elt Ideal)) (x1 x2 : (⟨S512x32768, .bf16⟩ : BufTy).Contents (Elt Ideal))
  (x3 x4 : (⟨S32768x1024, .bf16⟩ : BufTy).Contents (Elt Ideal)) (x5 : (⟨S1x16x2048x256, .f32⟩ : BufTy).Contents (Elt Ideal))
  (x6 x7 : (⟨S1x512x1024, .f32⟩ : BufTy).Contents (Elt Ideal)) (x8 : (⟨S1x1024x1024, .f32⟩ : BufTy).Contents (Elt Ideal))
  (x9 : (⟨S1x1024, .f32⟩ : BufTy).Contents (Elt Ideal)) (x10 : (⟨S1x1024x4096, .f32⟩ : BufTy).Contents (Elt Ideal))
  (x11 : (⟨S1x4096x1024, .f32⟩ : BufTy).Contents (Elt Ideal)) (x12 : (⟨S1x1024, .f32⟩ : BufTy).Contents (Elt Ideal))
  (x13 : (⟨S1x1024x1024, .f32⟩ : BufTy).Contents (Elt Ideal)) (x14 : (⟨S1x256x1024, .f32⟩ : BufTy).Contents (Elt Ideal))
  (x15 : (⟨S1024, .f32⟩ : BufTy).Contents (Elt Ideal))

/-- Batch and position of a flat row give the row back. -/
theorem join_row (g : Fin 32768) (h : g.val / 2048 * 2048 + g.val % 2048 < 32768) :
    (⟨g.val / 2048 * 2048 + g.val % 2048, h⟩ : Fin 32768) = g := Fin.ext (Nat.div_add_mod' g.val 2048)

/-- After the mixers. -/
theorem ref_mix (g : Fin 32768) (j : Fin 1024) :
    val_main_v19 x0 x1 x2 x3 x4 x6 x7 x8 (ix3 (bat g) (pos g) j)
      = mix (argToken x0 x1 x2 x3 x4 x5 g) (argWeights x6 x7 x8 x9 x10 x11 x12 x13 x14 x15) j := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0]
  simp only [join_row]
  rfl

/-- The normalised row before the feed-forward part. -/
theorem ref_norm (g : Fin 32768) (j : Fin 1024) :
    val_main_v33 x0 x1 x2 x3 x4 x6 x7 x8 x9 (ix3 (bat g) (pos g) j)
      = rms (fun k => val_main_v19 x0 x1 x2 x3 x4 x6 x7 x8 (ix3 (bat g) (pos g) k)) (fun k => x9 (ix2 0 k)) j := by
  unfold val_main_v33 val_main_v30 val_main_v29 val_main_v28 val_main_v27 val_main_v25 val_main_v23 val_main_v22 val_main_v21
  generalize val_main_v19 x0 x1 x2 x3 x4 x6 x7 x8 = v
  pointwise [val_main_v32, val_main_v31, val_main_v26, val_main_v24, val_main_v20, val_main_cst, val_main_cst_0, val_main_cst_1]
  rfl

/-- After the feed-forward part. -/
theorem ref_afterFf (g : Fin 32768) (j : Fin 1024) :
    val_main_v40 x0 x1 x2 x3 x4 x6 x7 x8 x9 x10 x11 (ix3 (bat g) (pos g) j)
      = afterFf (argToken x0 x1 x2 x3 x4 x5 g) (argWeights x6 x7 x8 x9 x10 x11 x12 x13 x14 x15) j := by
  have hn := ref_norm x0 x1 x2 x3 x4 x6 x7 x8 x9 g
  have hm := ref_mix x0 x1 x2 x3 x4 x5 x6 x7 x8 x9 x10 x11 x12 x13 x14 x15 g
  simp only [hm] at hn
  unfold val_main_v40 val_main_v39 val_main_v37 val_main_v36 val_main_v35
  generalize val_main_v19 x0 x1 x2 x3 x4 x6 x7 x8 = v at hm ⊢
  generalize val_main_v33 x0 x1 x2 x3 x4 x6 x7 x8 x9 = n at hn ⊢
  pointwise [val_main_v34, val_main_v38, val_main_call0_v0, val_main_call0_cst]
  simp only [hm, hn]
  rfl

/-- The normalised row before the per-layer input's gate. -/
theorem ref_norm' (g : Fin 32768) (j : Fin 1024) :
    val_main_v54 x0 x1 x2 x3 x4 x6 x7 x8 x9 x10 x11 x12 (ix3 (bat g) (pos g) j)
      = rms (fun k => val_main_v40 x0 x1 x2 x3 x4 x6 x7 x8 x9 x10 x11 (ix3 (bat g) (pos g) k)) (fun k => x12 (ix2 0 k)) j := by
  unfold val_main_v54 val_main_v51 val_main_v50 val_main_v49 val_main_v48 val_main_v46 val_main_v44 val_main_v43 val_main_v42
  generalize val_main_v40 x0 x1 x2 x3 x4 x6 x7 x8 x9 x10 x11 = v
  pointwise [val_main_v53, val_main_v52, val_main_v47, val_main_v45, val_main_v41, val_main_cst_2, val_main_cst_3, val_main_cst_4]
  rfl

/-- After the gated per-layer input. -/
theorem ref_afterPle (g : Fin 32768) (j : Fin 1024) :
    val_main_v67 x0 x1 x2 x3 x4 x5 x6 x7 x8 x9 x10 x11 x12 x13 x14 (ix3 (bat g) (pos g) j)
      = afterPle (argToken x0 x1 x2 x3 x4 x5 g) (argWeights x6 x7 x8 x9 x10 x11 x12 x13 x14 x15) j := by
  have hn := ref_norm' x0 x1 x2 x3 x4 x6 x7 x8 x9 x10 x11 x12 g
  have hm := ref_afterFf x0 x1 x2 x3 x4 x5 x6 x7 x8 x9 x10 x11 x12 x13 x14 x15 g
  simp only [hm] at hn
  unfold val_main_v67 val_main_v66 val_main_v65 val_main_v62 val_main_v60 val_main_v58 val_main_v57 val_main_v56
  generalize val_main_v40 x0 x1 x2 x3 x4 x6 x7 x8 x9 x10 x11 = v at hm ⊢
  generalize val_main_v54 x0 x1 x2 x3 x4 x6 x7 x8 x9 x10 x11 x12 = n at hn ⊢
  pointwise [val_main_v55, val_main_v59, val_main_v61, val_main_v63, val_main_v64, val_main_cst_5, val_main_cst_6]
  simp only [hm, hn]
  rfl

/-- The reference's result, at flat row `g`: the finished row of token `g`. -/
theorem ref_row (g : Fin 32768) (j : Fin 1024) :
    val_main_v81 x0 x1 x2 x3 x4 x5 x6 x7 x8 x9 x10 x11 x12 x13 x14 x15 (ix2 g j)
      = row (argToken x0 x1 x2 x3 x4 x5 g) (argWeights x6 x7 x8 x9 x10 x11 x12 x13 x14 x15) j := by
  have hm := ref_afterPle x0 x1 x2 x3 x4 x5 x6 x7 x8 x9 x10 x11 x12 x13 x14 x15 g
  unfold val_main_v81 val_main_v80 val_main_v77 val_main_v76 val_main_v75 val_main_v74 val_main_v72 val_main_v70 val_main_v69
    val_main_v68
  generalize val_main_v67 x0 x1 x2 x3 x4 x5 x6 x7 x8 x9 x10 x11 x12 x13 x14 = v at hm ⊢
  pointwise [val_main_v79, val_main_v78, val_main_v73, val_main_v71, val_main_cst_7, val_main_cst_8, val_main_cst_9]
  simp only [hm]
  rfl

end Cert.Proof.Post

end
-- ==== Proof.PostClaim.lean ====
/- The claims about the second half of the layer (mixing of the two attention results, MLP, per-layer embedding, final
   normalisation): the frames, and the equality of the kernel's array with the reference's. -/
module

public import proofs.«01_k».proof.Defs
public import proofs.«01_k».proof.Proof.Gen.Kernel.Frame
public import proofs.«01_k».proof.Proof.PostArray
public import proofs.«01_k».proof.Proof.PostRef

@[expose] public section

noncomputable section

namespace Cert.Proof.Post

open Idealize.ShloMosaic Idealize.SL.Sem

/-- Every run of the kernel ends, with its arguments as they were. -/
theorem frame_kernel : Cert.quiescent_Kernel := fun m ρ _ => Cert.Kernel.Gen.frame m ρ

/-- The same over the extended reals. -/
theorem frame_ideal : Cert.quiescent_KernelIdeal := fun m ρ _ => Cert.KernelIdeal.Gen.frame m ρ

/-- The reference is a line of host operations: its run leaves the arguments alone and declares no semaphore. -/
theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

/-- The reference's array, computed from the kernel's sixteen arguments, is the array the kernel leaves: the rows that
    the layer's formulas give. -/
theorem ref_result (m : (ℓ : Loc Cert.KernelIdeal.nD Cert.KernelIdeal.τ Cert.KernelIdeal.sig) → Buf (Elt Ideal) ℓ)
    (c : Dev Cert.KernelIdeal.nD) {x0 x1 x2 x3 x4 x5 x6 x7 x8 x9 x10 x11 x12 x13 x14 x15}
    (h0 : x0 = m (c.tc.loc Cert.KernelIdeal.main_arg0))
    (h1 : x1 = m (c.tc.loc Cert.KernelIdeal.main_arg1))
    (h2 : x2 = m (c.tc.loc Cert.KernelIdeal.main_arg2))
    (h3 : x3 = m (c.tc.loc Cert.KernelIdeal.main_arg3))
    (h4 : x4 = m (c.tc.loc Cert.KernelIdeal.main_arg4))
    (h5 : x5 = m (c.tc.loc Cert.KernelIdeal.main_arg5))
    (h6 : x6 = m (c.tc.loc Cert.KernelIdeal.main_arg6))
    (h7 : x7 = m (c.tc.loc Cert.KernelIdeal.main_arg7))
    (h8 : x8 = m (c.tc.loc Cert.KernelIdeal.main_arg8))
    (h9 : x9 = m (c.tc.loc Cert.KernelIdeal.main_arg9))
    (h10 : x10 = m (c.tc.loc Cert.KernelIdeal.main_arg10))
    (h11 : x11 = m (c.tc.loc Cert.KernelIdeal.main_arg11))
    (h12 : x12 = m (c.tc.loc Cert.KernelIdeal.main_arg12))
    (h13 : x13 = m (c.tc.loc Cert.KernelIdeal.main_arg13))
    (h14 : x14 = m (c.tc.loc Cert.KernelIdeal.main_arg14))
    (h15 : x15 = m (c.tc.loc Cert.KernelIdeal.main_arg15)) :
    Cert.ReferenceIdeal.Read.val_main_v81 (F := Ideal) x0 x1 x2 x3 x4 x5 x6 x7 x8 x9 x10 x11 x12 x13 x14 x15 =
      result m c := by
  subst h0 h1 h2 h3 h4 h5 h6 h7 h8 h9 h10 h11 h12 h13 h14 h15
  funext i
  rw [eq_ix2 i]
  exact ref_row ..

/-- From the same arguments, the kernel's array and the reference's are the same. -/
theorem algebraic : Cert.algebraic_KernelIdeal_ReferenceIdeal := by
  intro m g m' g' _ hagree
  refine ⟨fun c => result m c, θ_run_mono (Cert.KernelIdeal.Value.run_blocks m g) fun r h c =>
      ⟨(h c).1.trans (arr_eq_result m c), (h c).2⟩,
    θ_run_mono (Cert.ReferenceIdeal.Value.run (F := Ideal) m' g') fun r h c => ⟨?_, (h c).2⟩⟩
  obtain ⟨h0, h1, h2, h3, h4, h5, h6, h7, h8, h9, h10, h11, h12, h13, h14, h15⟩ := hagree c
  exact (h c).1.trans ((Cert.ReferenceIdeal.Read.val_main_v81_eq _).trans
    (ref_result m c h0 h1 h2 h3 h4 h5 h6 h7 h8 h9 h10 h11 h12 h13 h14 h15))

end Cert.Proof.Post

end
-- ==== Proof.ProjRow.lean ====
module
public import Idealize.ShloMosaic.Lib.Pointwise
@[expose] public section
noncomputable section

/-! # One row of the projections

The projections act on the rows of the activations one by one. This module says, over the extended reals, what they make of
one token: the normalised row, its image under the input matrix, the two latent rows that are normalised again, the heads'
queries and keys with their rotated parts. -/

namespace Cert.Proof.Proj

open Idealize.ShloMosaic

/-- What one token brings: its row of activations and its position. -/
structure Token where
  /-- the activations -/
  x : Fin 1024 → EReal
  /-- the position -/
  p : EReal

/-- The weights every token meets. -/
structure Weights where
  /-- the rotation's frequencies -/
  f : Fin 16 → EReal
  /-- gain of the first normalisation -/
  gm : Fin 1024 → EReal
  /-- the input matrix, all streams side by side -/
  win : Fin 1024 → Fin 3812 → EReal
  /-- gain of the query latent -/
  gcq : Fin 384 → EReal
  /-- the query latent's matrix -/
  uq : Fin 384 → Fin 768 → EReal
  /-- gain of the key and value latent -/
  gckv : Fin 256 → EReal
  /-- the key and value latent's matrix -/
  ukv : Fin 256 → Fin 1024 → EReal

/-- Root-mean-square normalisation of a row with a gain; `c` is the length of the row. -/
def rms {n : Nat} (c : EReal) (v g : Fin n → EReal) (j : Fin n) : EReal :=
  v j * Ideal.rsqrt (Ideal.div (∑ k, v k * v k) c + Ideal.ofBits .f32 0x358637BD#32) * g j

variable (T : Token) (W : Weights)

/-- The normalised row. -/
def norm : Fin 1024 → EReal := rms (Ideal.ofBits .f32 0x44800000#32) T.x W.gm

/-- Column `c` of the input projection. -/
def zed (c : Fin 3812) : EReal := ∑ k, norm T W k * W.win k c

/-- The normalised query latent. -/
def latQ : Fin 384 → EReal :=
  rms (Ideal.ofBits .f32 0x43C00000#32) (fun j => zed T W ⟨1092 + j.val, by have := j.isLt; omega⟩) W.gcq

/-- Column `c` of the queries before the rotation. -/
def quer (c : Fin 768) : EReal := ∑ k, latQ T W k * W.uq k c

/-- The normalised key and value latent. -/
def latK : Fin 256 → EReal :=
  rms (Ideal.ofBits .f32 0x43800000#32) (fun j => zed T W ⟨1476 + j.val, by have := j.isLt; omega⟩) W.gckv

/-- Column `c` of the keys and values. -/
def keyv (c : Fin 1024) : EReal := ∑ k, latK T W k * W.ukv k c

/-- The angle of frequency `d` at the token's position. -/
def angle (d : Fin 16) : EReal := T.p * W.f d

/-- The first half of a rotated vector. -/
def ropeLo (v : Fin 32 → EReal) (d : Fin 16) : EReal :=
  v ⟨d.val, by have := d.isLt; omega⟩ * Ideal.cos (angle T W d)
    - v ⟨16 + d.val, by have := d.isLt; omega⟩ * Ideal.sin (angle T W d)

/-- The second half of a rotated vector. -/
def ropeHi (v : Fin 32 → EReal) (d : Fin 16) : EReal :=
  v ⟨16 + d.val, by have := d.isLt; omega⟩ * Ideal.cos (angle T W d)
    + v ⟨d.val, by have := d.isLt; omega⟩ * Ideal.sin (angle T W d)

/-- A slot of 128 lanes: 64 lanes as they are, 32 rotated, the rest zero. -/
def slot (v : Fin 64 → EReal) (w : Fin 32 → EReal) (l : Fin 128) : EReal :=
  if l.val < 64 then v ⟨l.val % 64, by omega⟩
  else if l.val < 80 then ropeLo T W w ⟨l.val % 16, by omega⟩
  else if l.val < 96 then ropeHi T W w ⟨l.val % 16, by omega⟩
  else 0

/-! ## The eleven results of one token -/

/-- The attention queries, scaled. -/
def resQa (j : Fin 512) : EReal := zed T W ⟨j.val, by omega⟩ * Ideal.ofBits .f32 0x3E000000#32

/-- The indexer's queries. -/
def resQi (j : Fin 256) : EReal := zed T W ⟨768 + j.val, by omega⟩

/-- The latent queries: eight slots, scaled. -/
def resQb (j : Fin 1024) : EReal :=
  slot T W (fun d => quer T W ⟨96 * (j.val / 128) + d.val, by have := d.isLt; omega⟩)
    (fun d => quer T W ⟨96 * (j.val / 128) + 64 + d.val, by have := d.isLt; omega⟩) ⟨j.val % 128, by omega⟩
    * Ideal.ofBits .f32 0x3DD105EC#32

/-- The indexer's head weights, scaled, and four zeros. -/
def resWi (a : Fin 8) : EReal :=
  if a.val < 4 then zed T W ⟨1088 + a.val % 4, by omega⟩ * Ideal.ofBits .f32 0x3D800000#32 else 0

/-- A key of 64 lanes stored twice in 256: first, and after 128 zeros. -/
abbrev twice (j : Nat) : Prop := j % 256 < 64 ∨ 192 ≤ j % 256

/-- The attention keys of the two groups, each stored twice. -/
def resKa (j : Fin 512) : EReal :=
  if twice j.val then zed T W ⟨512 + 64 * (j.val / 256) + j.val % 64, by omega⟩ else 0

/-- The indexer's keys, stored twice. -/
def resKi (j : Fin 256) : EReal := if twice j.val then zed T W ⟨1024 + j.val % 64, by omega⟩ else 0

/-- The latent keys: eight slots that share their rotated part. -/
def resKb (j : Fin 1024) : EReal :=
  slot T W (fun d => keyv T W ⟨128 * (j.val / 128) + d.val, by have := d.isLt; omega⟩)
    (fun d => zed T W ⟨1732 + d.val, by have := d.isLt; omega⟩) ⟨j.val % 128, by omega⟩

/-- The attention values. -/
def resVa (i : Fin 128) : EReal := zed T W ⟨640 + i.val, by omega⟩

/-- The latent values. -/
def resVb (i : Fin 512) : EReal := keyv T W ⟨128 * (i.val / 64) + 64 + i.val % 64, by omega⟩

/-- The first gate. -/
def resGa (j : Fin 1024) : EReal := Ideal.logistic (zed T W ⟨1764 + j.val, by omega⟩)

/-- The second gate. -/
def resGb (j : Fin 1024) : EReal := Ideal.logistic (zed T W ⟨2788 + j.val, by omega⟩)

/-! ## The kernel's rotation -/

/-- A slot of 128 lanes rotated by three tables: the lane itself, the lane 16 above, the lane 16 below. -/
def slotRot (t c dn up : Fin 128 → EReal) (l : Fin 128) : EReal :=
  t l * c l + t ⟨(l.val + 128 - 112) % 128, Nat.mod_lt _ (by omega)⟩ * dn l
    + t ⟨(l.val + 128 - 16) % 128, Nat.mod_lt _ (by omega)⟩ * up l

/-- With the tables 1, 0, 0 outside the rotated lanes and the cosine and the signed sines inside, the kernel's rotation is the
    slot: `x - y` is `x + (-y)`, and the products with zero vanish. -/
theorem slotRot_eq (v : Fin 64 → EReal) (w : Fin 32 → EReal) (t c dn up : Fin 128 → EReal)
    (ht : ∀ l : Fin 128, t l = if l.val < 64 then v ⟨l.val % 64, by omega⟩
      else if l.val < 96 then w ⟨l.val % 32, by omega⟩ else 0)
    (hc : ∀ l : Fin 128, c l = if 64 ≤ l.val ∧ l.val < 96 then Ideal.cos (angle T W ⟨l.val % 16, by omega⟩) else 1)
    (hd : ∀ l : Fin 128, dn l = if 64 ≤ l.val ∧ l.val < 80 then 0 - Ideal.sin (angle T W ⟨l.val % 16, by omega⟩) else 0)
    (hu : ∀ l : Fin 128, up l = if 80 ≤ l.val ∧ l.val < 96 then Ideal.sin (angle T W ⟨l.val % 16, by omega⟩) else 0)
    (l : Fin 128) : slotRot t c dn up l = slot T W v w l := by
  have hl := l.isLt
  unfold slotRot slot ropeLo ropeHi
  rw [hc l, hd l, hu l]
  by_cases h1 : l.val < 64
  · rw [if_neg (by omega), if_neg (by omega), if_neg (by omega), if_pos h1, ht l, if_pos h1]
    simp
  by_cases h2 : l.val < 80
  · rw [if_pos (by omega), if_pos (by omega), if_neg (by omega), if_neg h1, if_pos h2, ht l, if_neg h1, if_pos (by omega),
      ht ⟨(l.val + 128 - 112) % 128, Nat.mod_lt _ (by omega)⟩,
      if_neg (by show ¬ (l.val + 128 - 112) % 128 < 64; omega), if_pos (by show (l.val + 128 - 112) % 128 < 96; omega)]
    rw [mul_zero, add_zero, zero_sub, mul_neg, ← sub_eq_add_neg]
    refine congrArg₂ _ (congrArg₂ _ (congrArg w (Fin.ext ?_)) rfl) (congrArg₂ _ (congrArg w (Fin.ext ?_)) rfl)
    · show l.val % 32 = l.val % 16; omega
    · show (l.val + 128 - 112) % 128 % 32 = 16 + l.val % 16; omega
  by_cases h3 : l.val < 96
  · rw [if_pos (by omega), if_neg (by omega), if_pos (by omega), if_neg h1, if_neg h2, if_pos h3, ht l, if_neg h1, if_pos h3,
      ht ⟨(l.val + 128 - 16) % 128, Nat.mod_lt _ (by omega)⟩,
      if_neg (by show ¬ (l.val + 128 - 16) % 128 < 64; omega), if_pos (by show (l.val + 128 - 16) % 128 < 96; omega)]
    rw [mul_zero, add_zero]
    refine congrArg₂ _ (congrArg₂ _ (congrArg w (Fin.ext ?_)) rfl) (congrArg₂ _ (congrArg w (Fin.ext ?_)) rfl)
    · show l.val % 32 = 16 + l.val % 16; omega
    · show (l.val + 128 - 16) % 128 % 32 = l.val % 16; omega
  · rw [if_neg (by omega), if_neg (by omega), if_neg (by omega), if_neg h1, if_neg h2, if_neg h3, ht l, if_neg h1, if_neg h3]
    simp

/-- A column of zeros contributes nothing: a sum against a column that may be absent. -/
theorem sum_ite {n : Nat} (P : Prop) [Decidable P] (a b : Fin n → EReal) :
    (∑ k, a k * (if P then b k else 0)) = if P then ∑ k, a k * b k else 0 := by
  split_ifs
  · rfl
  · simp

end Cert.Proof.Proj

end
-- ==== Proof.ProjBlock.lean ====
module
public import proofs.«01_k».proof.Proof.ProjRow
public import proofs.«01_k».proof.Proof.Gen.Kernel2Ideal.Frame
public import Idealize.ShloMosaic.Lib.MatmulPlain
@[expose] public section
noncomputable section

/-! # The payloads of the projections at an index

The values the kernel's grid point computes from 512 rows of the activations, read at one index: matrix products, two
normalised latents, the tables of the rotation and the rotated slots. -/

namespace Cert.Proof.Proj

open Cert.Kernel2Ideal Cert.Kernel2Ideal.Gen Idealize.ShloMosaic

/-- The normalised rows, at an index. -/
theorem pay2_apply (x : Vec Ideal S512x1024 .f32) (g : Vec Ideal S1x1024 .f32) (r : Fin 512) (k : Fin 1024) :
    k0_pay2 x g (ix2 r k)
      = rms (Ideal.ofBits .f32 0x44800000#32) (fun k => x (ix2 r k)) (fun k => g (ix2 0 k)) k := by
  pointwise [k0_pay2]
  rfl

/-- The attention queries, at an index. -/
theorem pay3_apply (x : Vec Ideal S512x1024 .f32) (g : Vec Ideal S1x1024 .f32) (w : Vec Ideal S1024x512 .bf16) (r j : Fin 512) :
    k0_pay3 x g w (ix2 r j)
      = (∑ k, k0_pay2 x g (ix2 r k) * w (ix2 k j)) * Ideal.ofBits .f32 0x3E000000#32 := by
  unfold k0_pay3
  generalize k0_pay2 x g = n
  pointwise []

/-- The indexer's queries, at an index. -/
theorem pay4_apply (x : Vec Ideal S512x1024 .f32) (g : Vec Ideal S1x1024 .f32) (w : Vec Ideal S1024x256 .bf16) (r : Fin 512)
    (j : Fin 256) : k0_pay4 x g w (ix2 r j) = ∑ k, k0_pay2 x g (ix2 r k) * w (ix2 k j) := by
  unfold k0_pay4
  generalize k0_pay2 x g = n
  pointwise []

/-- The attention keys, at an index. -/
theorem pay5_apply (x : Vec Ideal S512x1024 .f32) (g : Vec Ideal S1x1024 .f32) (w : Vec Ideal S1024x512 .bf16) (r j : Fin 512) :
    k0_pay5 x g w (ix2 r j) = ∑ k, k0_pay2 x g (ix2 r k) * w (ix2 k j) := by
  unfold k0_pay5
  generalize k0_pay2 x g = n
  pointwise []

/-- The indexer's keys, at an index. -/
theorem pay6_apply (n : FVec Ideal S512x1024 .bf16) (w : Vec Ideal S1024x256 .bf16) (r : Fin 512) (j : Fin 256) :
    k0_pay6 n w (ix2 r j) = ∑ k, n (ix2 r k) * w (ix2 k j) := by
  pointwise [k0_pay6]

/-- The first gate, at an index. -/
theorem pay7_apply (n : FVec Ideal S512x1024 .bf16) (w : Vec Ideal S1024x1024 .bf16) (r : Fin 512) (j : Fin 1024) :
    k0_pay7 n w (ix2 r j) = Ideal.logistic (∑ k, n (ix2 r k) * w (ix2 k j)) := by
  pointwise [k0_pay7]

/-- The second gate, at an index. -/
theorem pay8_apply (n : FVec Ideal S512x1024 .bf16) (w : Vec Ideal S1024x1024 .bf16) (r : Fin 512) (j : Fin 1024) :
    k0_pay8 n w (ix2 r j) = Ideal.logistic (∑ k, n (ix2 r k) * w (ix2 k j)) := by
  pointwise [k0_pay8]

/-- The attention values of the first 256 rows, transposed, at an index. -/
theorem pay10_apply (n : FVec Ideal S512x1024 .bf16) (w : Vec Ideal S128x1024 .bf16) (i : Fin 128) (l : Fin 256) :
    k0_pay10 n w (ix3 0 i l) = ∑ k, w (ix2 i k) * n (ix2 ⟨l.val, by have := l.isLt; omega⟩ k) := by
  pointwise [k0_pay10, k0_pay9]

/-- The attention values of the last 256 rows, transposed, at an index. -/
theorem pay11_apply (n : FVec Ideal S512x1024 .bf16) (w : Vec Ideal S128x1024 .bf16) (i : Fin 128) (l : Fin 256) :
    k0_pay11 n w (ix3 0 i l) = ∑ k, w (ix2 i k) * n (ix2 ⟨256 + l.val, by have := l.isLt; omega⟩ k) := by
  pointwise [k0_pay11, k0_pay9]

/-- The indexer's head weights, transposed, at an index. -/
theorem pay12_apply (n : FVec Ideal S512x1024 .bf16) (w : Vec Ideal S8x1024 .bf16) (i : Fin 8) (l : Fin 512) :
    k0_pay12 n w (ix2 i l) = (∑ k, w (ix2 i k) * n (ix2 l k)) * Ideal.ofBits .f32 0x3D800000#32 := by
  pointwise [k0_pay12]

/-- The normalised query latent, at an index. -/
theorem pay20_apply (n : FVec Ideal S512x1024 .bf16) (w : Vec Ideal S1024x384 .bf16) (g : Vec Ideal S1x384 .f32) (r : Fin 512)
    (j : Fin 384) : k0_pay20 n w g (ix2 r j)
      = rms (Ideal.ofBits .f32 0x43C00000#32) (fun j => ∑ k, n (ix2 r k) * w (ix2 k j)) (fun j => g (ix2 0 j)) j := by
  pointwise [k0_pay20]
  rfl

/-- The normalised key and value latent, at an index. -/
theorem pay34_apply (n : FVec Ideal S512x1024 .bf16) (w : Vec Ideal S1024x256 .bf16) (g : Vec Ideal S1x256 .f32) (r : Fin 512)
    (j : Fin 256) : k0_pay34 n w g (ix2 r j)
      = rms (Ideal.ofBits .f32 0x43800000#32) (fun j => ∑ k, n (ix2 r k) * w (ix2 k j)) (fun j => g (ix2 0 j)) j := by
  pointwise [k0_pay34]
  rfl

/-- The scale of the latent queries. -/
abbrev qs : EReal := Ideal.ofBits .f32 0x3DD105EC#32

variable (c dn up : FVec Ideal S512x128 .f32) (q : FVec Ideal S512x384 .bf16) (w : Vec Ideal S384x128 .bf16)
  (r : Fin 512) (l : Fin 128)

/-- A head's slot of queries: the latent against the head's columns, rotated and scaled. -/
abbrev headQ : EReal :=
  slotRot (fun l => ∑ k, q (ix2 r k) * w (ix2 k l)) (fun l => c (ix2 r l)) (fun l => dn (ix2 r l)) (fun l => up (ix2 r l)) l * qs

/-- Head 0's queries, at an index. -/
theorem pay21_apply (n : FVec Ideal S512x1024 .bf16) (v : Vec Ideal S1024x384 .bf16) (g : Vec Ideal S1x384 .f32) :
    k0_pay21 n c dn up v g w (ix2 r l) = headQ c dn up (k0_pay20 n v g) w r l := by
  unfold k0_pay21
  generalize k0_pay20 n v g = q
  pointwise []
  rfl

/-- Head 1's queries, at an index. -/
theorem pay25_apply (n : FVec Ideal S512x1024 .bf16) (v : Vec Ideal S1024x384 .bf16) (g : Vec Ideal S1x384 .f32) :
    k0_pay25 up (k0_pay23 n v g w) (k0_pay24 n c dn v g w) (ix2 r l) = headQ c dn up (k0_pay20 n v g) w r l := by
  unfold k0_pay24 k0_pay23 k0_pay22
  generalize k0_pay20 n v g = q
  pointwise [k0_pay25]
  rfl

/-- Head 2's queries, at an index. -/
theorem pay26_apply : k0_pay26 c dn up q w (ix2 r l) = headQ c dn up q w r l := by
  pointwise [k0_pay26]
  rfl

/-- Head 3's queries, at an index. -/
theorem pay27_apply : k0_pay27 c dn up q w (ix2 r l) = headQ c dn up q w r l := by
  pointwise [k0_pay27]
  rfl

/-- Head 4's queries, at an index. -/
theorem pay29_apply : k0_pay29 c dn up q (k0_pay28 w) (ix2 r l) = headQ c dn up q w r l := by
  pointwise [k0_pay29, k0_pay28]
  rfl

/-- Head 5's queries, at an index. -/
theorem pay30_apply : k0_pay30 c dn up q w (ix2 r l) = headQ c dn up q w r l := by
  pointwise [k0_pay30]
  rfl

/-- Head 6's queries, at an index. -/
theorem pay32_apply : k0_pay32 (k0_pay31 c dn up q w) (ix2 r l) = headQ c dn up q w r l := by
  pointwise [k0_pay32, k0_pay31]
  rfl

/-- Head 7's queries, at an index. -/
theorem pay33_apply : k0_pay33 c dn up q w (ix2 r l) = headQ c dn up q w r l := by
  pointwise [k0_pay33]
  rfl

/-- The shared key slot before the rotation, at an index. -/
theorem pay35_apply (n : FVec Ideal S512x1024 .bf16) (v : Vec Ideal S1024x128 .bf16) :
    k0_pay35 n v (ix2 r l) = ∑ k, n (ix2 r k) * v (ix2 k l) := by
  pointwise [k0_pay35]

variable (t : FVec Ideal S512x128 .f32) (kv : FVec Ideal S512x256 .bf16) (u : Vec Ideal S256x128 .bf16)

/-- The shared key slot, rotated, at an index. -/
theorem pay36_apply : k0_pay36 c dn up t 16#32 (ix2 r l)
    = slotRot (fun l => t (ix2 r l)) (fun l => c (ix2 r l)) (fun l => dn (ix2 r l)) (fun l => up (ix2 r l)) l := by
  pointwise [k0_pay36]
  rfl

/-- A head's slot of keys: the latent against the head's columns, plus the shared rotated slot. -/
abbrev headK : EReal := ∑ k, kv (ix2 r k) * u (ix2 k l) + t (ix2 r l)

/-- Head 0's keys, at an index. -/
theorem pay37_apply : k0_pay37 c dn up kv t 16#32 u (ix2 r l) = headK r l (k0_pay36 c dn up t 16#32) kv u := by
  unfold k0_pay37
  generalize k0_pay36 c dn up t 16#32 = s
  pointwise []

/-- Head 1's keys, at an index. -/
theorem pay38_apply : k0_pay38 c dn up kv t 16#32 u (ix2 r l) = headK r l (k0_pay36 c dn up t 16#32) kv u := by
  unfold k0_pay38
  generalize k0_pay36 c dn up t 16#32 = s
  pointwise []

/-- Head 2's keys, at an index. -/
theorem pay39_apply : k0_pay39 c dn up kv t 16#32 u (ix2 r l) = headK r l (k0_pay36 c dn up t 16#32) kv u := by
  unfold k0_pay39
  generalize k0_pay36 c dn up t 16#32 = s
  pointwise []

/-- Head 3's keys, at an index. -/
theorem pay40_apply : k0_pay40 c dn up kv t 16#32 u (ix2 r l) = headK r l (k0_pay36 c dn up t 16#32) kv u := by
  unfold k0_pay40
  generalize k0_pay36 c dn up t 16#32 = s
  pointwise []

/-- Head 4's keys, at an index. -/
theorem pay42_apply : k0_pay42 kv t (k0_pay41 u) (ix2 r l) = headK r l t kv u := by
  pointwise [k0_pay42, k0_pay41]

/-- Head 5's keys, at an index. -/
theorem pay43_apply : k0_pay43 kv t u (ix2 r l) = headK r l t kv u := by
  pointwise [k0_pay43]

/-- Head 6's keys, at an index. -/
theorem pay44_apply : k0_pay44 kv t u (ix2 r l) = headK r l t kv u := by
  pointwise [k0_pay44]

/-- Head 7's keys, at an index. -/
theorem pay45_apply : k0_pay45 kv t u (ix2 r l) = headK r l t kv u := by
  pointwise [k0_pay45]

/-- The latent values of the first 256 rows, transposed, at an index. -/
theorem pay47_apply (v : Vec Ideal S512x256 .bf16) (i : Fin 512) (l : Fin 256) :
    k0_pay47 kv v (ix3 0 i l) = ∑ k, v (ix2 i k) * kv (ix2 ⟨l.val, by have := l.isLt; omega⟩ k) := by
  pointwise [k0_pay47, k0_pay46]

/-- The latent values of the last 256 rows, transposed, at an index. -/
theorem pay48_apply (v : Vec Ideal S512x256 .bf16) (i : Fin 512) (l : Fin 256) :
    k0_pay1 (k0_pay48 kv v) (ix3 0 i l) = ∑ k, v (ix2 i k) * kv (ix2 ⟨256 + l.val, by have := l.isLt; omega⟩ k) := by
  pointwise [k0_pay1, k0_pay48, k0_pay46]

/-- Lanes 64 to 79 take the first half of a rotated vector. -/
theorem pay13_apply : k0_pay13 (ix2 0 l) = if 64 ≤ l.val ∧ l.val < 80 then 1#1 else 0#1 := by
  pointwise [k0_pay13]
  revert l
  decide +kernel

/-- Lanes 80 to 95 take the second half. -/
theorem pay14_apply : k0_pay14 (ix2 0 l) = if 80 ≤ l.val ∧ l.val < 96 then 1#1 else 0#1 := by
  pointwise [k0_pay14]
  revert l
  decide +kernel

variable (p : Vec Ideal S512x1 .f32) (f : Vec Ideal S1x128 .f32)

/-- The table of the lane itself, at an index. -/
theorem pay17_apply : k0_pay17 p f (ix2 r l)
    = if 64 ≤ l.val ∧ l.val < 96 then Ideal.cos (p (ix2 r 0) * f (ix2 0 l)) else 1 := by
  have h13 := pay13_apply l
  have h14 := pay14_apply l
  unfold k0_pay17
  generalize k0_pay13 = a at h13 ⊢
  generalize k0_pay14 = b at h14 ⊢
  pointwise [k0_pay15]
  rw [h13, h14]
  by_cases h1 : 64 ≤ l.val ∧ l.val < 80
  · rw [if_pos h1, if_neg (by omega), if_pos (by omega)]; rfl
  by_cases h2 : 80 ≤ l.val ∧ l.val < 96
  · rw [if_neg h1, if_pos h2, if_pos (by omega)]; rfl
  · rw [if_neg h1, if_neg h2, if_neg (by omega)]; rfl

/-- The table of the lane above, at an index. -/
theorem pay18_apply : k0_pay18 p f (ix2 r l)
    = if 64 ≤ l.val ∧ l.val < 80 then 0 - Ideal.sin (p (ix2 r 0) * f (ix2 0 l)) else 0 := by
  have h13 := pay13_apply l
  unfold k0_pay18
  generalize k0_pay13 = a at h13 ⊢
  pointwise [k0_pay16, k0_pay15]
  rw [h13]
  split_ifs <;> rfl

/-- The table of the lane below, at an index. -/
theorem pay19_apply : k0_pay19 p f (ix2 r l)
    = if 80 ≤ l.val ∧ l.val < 96 then Ideal.sin (p (ix2 r 0) * f (ix2 0 l)) else 0 := by
  have h14 := pay14_apply l
  unfold k0_pay19
  generalize k0_pay14 = a at h14 ⊢
  pointwise [k0_pay16, k0_pay15]
  rw [h14]
  split_ifs <;> rfl

end Cert.Proof.Proj

end
-- ==== Proof.ProjOut.lean ====
module
public import proofs.«01_k».proof.Proof.ProjBlock
public import Idealize.ShloMosaic.Lib.Pipeline.ValueKit
@[expose] public section
noncomputable section

/-! # What a grid point of the projections writes

From blocks that hold 512 tokens and the packed weights, the eleven blocks written are the eleven results of those tokens. -/

namespace Cert.Proof.Proj

open Cert.Kernel2Ideal Cert.Kernel2Ideal.Gen Idealize.ShloMosaic

/-- The offsets of a whole block of rank two are zero. -/
theorem zero2 : (![0, 0] : Fin 2 → Nat) = fun _ => 0 := by
  funext a
  match a with
  | ⟨0, _⟩ => rfl
  | ⟨1, _⟩ => rfl

/-- A load of a run of columns, at an index. -/
theorem ld_cols {a b n : Nat} {e : EltTy} (x : Vec Ideal (⟨2, ![a, b]⟩ : Shape) e) (o : Nat)
    (inb : ∀ i, (![0, o] : Fin 2 → Nat) i + (⟨2, ![a, n]⟩ : Shape).size i ≤ (⟨2, ![a, b]⟩ : Shape).size i) (k : Fin a)
    (j : Fin n) (h : o + j.val < b) :
    View.ld x (Rect.unit (s := (⟨2, ![a, b]⟩ : Shape)) ![0, o] (⟨2, ![a, n]⟩ : Shape).size inb) (ix2 k j)
      = x (ix2 k ⟨o + j.val, h⟩) := by
  refine congrArg x (funext fun i => Fin.ext ?_)
  match i with
  | ⟨0, _⟩ => show 0 + 1 * k.val = k.val; omega
  | ⟨1, _⟩ => show o + 1 * j.val = o + j.val; omega

/-- The twelve blocks read hold the tokens `T` and the packed weights `W`. -/
structure Reads (x0 : Vec Ideal S512x1024 .f32) (x1 : Vec Ideal S512x1 .f32) (x2 : Vec Ideal S1x128 .f32)
    (x3 : Vec Ideal S1x1024 .f32) (x4 : Vec Ideal S1024x4352 .bf16) (x5 : Vec Ideal S128x1024 .bf16)
    (x6 : Vec Ideal S8x1024 .bf16) (x7 : Vec Ideal S1x384 .f32) (x8 : Vec Ideal S384x1024 .bf16) (x9 : Vec Ideal S1x256 .f32)
    (x10 : Vec Ideal S256x1024 .bf16) (x11 : Vec Ideal S512x256 .bf16) (T : Fin 512 → Token) (W : Weights) : Prop where
  /-- the activations -/
  x : ∀ r k, x0 (ix2 r k) = (T r).x k
  /-- the positions -/
  p : ∀ r, x1 (ix2 r 0) = (T r).p
  /-- the frequencies, on the rotated lanes -/
  f : ∀ l : Fin 128, 64 ≤ l.val ∧ l.val < 96 → x2 (ix2 0 l) = W.f ⟨l.val % 16, by omega⟩
  /-- the first gain -/
  gm : ∀ k, x3 (ix2 0 k) = W.gm k
  /-- the columns of the attention queries -/
  qa : ∀ (k : Fin 1024) (j : Fin 512), x4 (ix2 k ⟨0 + j.val, by omega⟩) = W.win k ⟨j.val, by omega⟩
  /-- the columns of the indexer's queries -/
  qi : ∀ (k : Fin 1024) (j : Fin 256), x4 (ix2 k ⟨512 + j.val, by omega⟩) = W.win k ⟨768 + j.val, by omega⟩
  /-- the columns of the attention keys, stored twice -/
  ka : ∀ (k : Fin 1024) (j : Fin 512), x4 (ix2 k ⟨768 + j.val, by omega⟩)
    = if twice j.val then W.win k ⟨512 + 64 * (j.val / 256) + j.val % 64, by omega⟩ else 0
  /-- the columns of the indexer's keys, stored twice -/
  ki : ∀ (k : Fin 1024) (j : Fin 256), x4 (ix2 k ⟨1280 + j.val, by omega⟩)
    = if twice j.val then W.win k ⟨1024 + j.val % 64, by omega⟩ else 0
  /-- the columns of the query latent -/
  cq : ∀ (k : Fin 1024) (j : Fin 384), x4 (ix2 k ⟨1536 + j.val, by omega⟩) = W.win k ⟨1092 + j.val, by omega⟩
  /-- the columns of the key and value latent -/
  ckv : ∀ (k : Fin 1024) (j : Fin 256), x4 (ix2 k ⟨1920 + j.val, by omega⟩) = W.win k ⟨1476 + j.val, by omega⟩
  /-- the columns of the shared rotated key, in the rotated lanes of a slot -/
  kr : ∀ (k : Fin 1024) (l : Fin 128), x4 (ix2 k ⟨2176 + l.val, by omega⟩)
    = if 64 ≤ l.val ∧ l.val < 96 then W.win k ⟨1732 + l.val % 32, by omega⟩ else 0
  /-- the columns of the first gate -/
  ga : ∀ (k : Fin 1024) (j : Fin 1024), x4 (ix2 k ⟨2304 + j.val, by omega⟩) = W.win k ⟨1764 + j.val, by omega⟩
  /-- the columns of the second gate -/
  gb : ∀ (k : Fin 1024) (j : Fin 1024), x4 (ix2 k ⟨3328 + j.val, by omega⟩) = W.win k ⟨2788 + j.val, by omega⟩
  /-- the columns of the attention values, transposed -/
  va : ∀ (i : Fin 128) (k : Fin 1024), x5 (ix2 i k) = W.win k ⟨640 + i.val, by omega⟩
  /-- the columns of the indexer's head weights, transposed -/
  wi : ∀ (a : Fin 8) (k : Fin 1024), x6 (ix2 a k) = if a.val < 4 then W.win k ⟨1088 + a.val % 4, by omega⟩ else 0
  /-- the second gain -/
  gcq : ∀ j, x7 (ix2 0 j) = W.gcq j
  /-- the queries' columns, 96 lanes of every slot -/
  uq : ∀ (k : Fin 384) (j : Fin 1024), x8 (ix2 k j)
    = if j.val % 128 < 96 then W.uq k ⟨96 * (j.val / 128) + j.val % 128 % 96, by omega⟩ else 0
  /-- the third gain -/
  gckv : ∀ j, x9 (ix2 0 j) = W.gckv j
  /-- the keys' columns, 64 lanes of every slot -/
  uk : ∀ (k : Fin 256) (j : Fin 1024), x10 (ix2 k j) = if j.val % 128 < 64 then W.ukv k j else 0
  /-- the values' columns, transposed -/
  uv : ∀ (i : Fin 512) (k : Fin 256), x11 (ix2 i k) = W.ukv k ⟨128 * (i.val / 64) + 64 + i.val % 64, by omega⟩

/-- Eight slots of 128 lanes are 1024 lanes. -/
theorem lane_lt (hd : Fin 8) (l : Fin 128) : 128 * hd.val + l.val < 1024 := by omega

variable {x0 : Vec Ideal S512x1024 .f32} {x1 : Vec Ideal S512x1 .f32} {x2 : Vec Ideal S1x128 .f32}
    {x3 : Vec Ideal S1x1024 .f32} {x4 : Vec Ideal S1024x4352 .bf16} {x5 : Vec Ideal S128x1024 .bf16}
    {x6 : Vec Ideal S8x1024 .bf16} {x7 : Vec Ideal S1x384 .f32} {x8 : Vec Ideal S384x1024 .bf16} {x9 : Vec Ideal S1x256 .f32}
    {x10 : Vec Ideal S256x1024 .bf16} {x11 : Vec Ideal S512x256 .bf16} {T : Fin 512 → Token} {W : Weights}
    (h : Reads x0 x1 x2 x3 x4 x5 x6 x7 x8 x9 x10 x11 T W) (r : Fin 512)

include h

/-- The shared normalised rows. -/
theorem norm_eq (k : Fin 1024) : k0_pay49 x0 x1 x2 x3 x4 x5 x6 x7 x8 x9 x10 x11 (ix2 r k) = norm (T r) W k := by
  unfold k0_pay49 norm
  rw [View.ld_unit_zero (S := S512x1024) zero2, View.ld_unit_zero (S := S1x1024) zero2, pay2_apply]
  simp only [h.x, h.gm]

/-- The same where they are not shared. -/
theorem norm_eq' (k : Fin 1024) : k0_pay2 (View.ld x0 r0_0) (View.ld x3 r0_1) (ix2 r k) = norm (T r) W k := norm_eq h r k

/-- The shared query latent. -/
theorem latQ_eq (j : Fin 384) : k0_pay53 x0 x1 x2 x3 x4 x5 x6 x7 x8 x9 x10 x11 (ix2 r j) = latQ (T r) W j := by
  unfold k0_pay53 latQ zed
  have hw : ∀ k j, View.ld x4 r0_17 (ix2 k j) = W.win k ⟨1092 + j.val, by have := j.isLt; omega⟩ := fun k j =>
    (ld_cols x4 1536 _ k j (by have := j.isLt; omega)).trans (h.cq k j)
  rw [View.ld_unit_zero (S := S1x384) zero2, pay20_apply]
  simp only [norm_eq h, hw, h.gcq]

/-- The shared key and value latent. -/
theorem latK_eq (j : Fin 256) : k0_pay54 x0 x1 x2 x3 x4 x5 x6 x7 x8 x9 x10 x11 (ix2 r j) = latK (T r) W j := by
  unfold k0_pay54 latK zed
  have hw : ∀ k j, View.ld x4 r0_35 (ix2 k j) = W.win k ⟨1476 + j.val, by have := j.isLt; omega⟩ := fun k j =>
    (ld_cols x4 1920 _ k j (by have := j.isLt; omega)).trans (h.ckv k j)
  rw [View.ld_unit_zero (S := S1x256) zero2, pay34_apply]
  simp only [norm_eq h, hw, h.gckv]

/-- The table of the lane itself. -/
theorem cos_eq (l : Fin 128) : k0_pay50 x0 x1 x2 x3 x4 x5 x6 x7 x8 x9 x10 x11 (ix2 r l)
    = if 64 ≤ l.val ∧ l.val < 96 then Ideal.cos (angle (T r) W ⟨l.val % 16, by omega⟩) else 1 := by
  unfold k0_pay50 angle
  rw [View.ld_unit_zero (S := S512x1) zero2, View.ld_unit_zero (S := S1x128) zero2, pay17_apply]
  split_ifs with hl
  · rw [h.p, h.f l hl]
  · rfl

/-- The table of the lane above. -/
theorem dn_eq (l : Fin 128) : k0_pay51 x0 x1 x2 x3 x4 x5 x6 x7 x8 x9 x10 x11 (ix2 r l)
    = if 64 ≤ l.val ∧ l.val < 80 then 0 - Ideal.sin (angle (T r) W ⟨l.val % 16, by omega⟩) else 0 := by
  unfold k0_pay51 angle
  rw [View.ld_unit_zero (S := S512x1) zero2, View.ld_unit_zero (S := S1x128) zero2, pay18_apply]
  split_ifs with hl
  · rw [h.p, h.f l (by omega)]
  · rfl

/-- The table of the lane below. -/
theorem up_eq (l : Fin 128) : k0_pay52 x0 x1 x2 x3 x4 x5 x6 x7 x8 x9 x10 x11 (ix2 r l)
    = if 80 ≤ l.val ∧ l.val < 96 then Ideal.sin (angle (T r) W ⟨l.val % 16, by omega⟩) else 0 := by
  unfold k0_pay52 angle
  rw [View.ld_unit_zero (S := S512x1) zero2, View.ld_unit_zero (S := S1x128) zero2, pay19_apply]
  split_ifs with hl
  · rw [h.p, h.f l (by omega)]
  · rfl

/-- WINDOW 12: the attention queries. -/
theorem out12_apply (j : Fin 512) : out0_12 x0 x1 x2 x3 x4 x5 x6 x7 x8 x9 x10 x11 (ix2 r j) = resQa (T r) W j := by
  unfold out0_12 resQa zed
  have hw : ∀ k, View.ld x4 r0_2 (ix2 k j) = W.win k ⟨j.val, by omega⟩ := fun k => (ld_cols x4 0 _ k j (by omega)).trans (h.qa k j)
  rw [View.canon_unit_zero zero2, pay3_apply]
  simp only [norm_eq' h, hw]

/-- WINDOW 13: the indexer's queries. -/
theorem out13_apply (j : Fin 256) : out0_13 x0 x1 x2 x3 x4 x5 x6 x7 x8 x9 x10 x11 (ix2 r j) = resQi (T r) W j := by
  unfold out0_13 resQi zed
  have hw : ∀ k, View.ld x4 r0_4 (ix2 k j) = W.win k ⟨768 + j.val, by omega⟩ := fun k =>
    (ld_cols x4 512 _ k j (by omega)).trans (h.qi k j)
  rw [View.canon_unit_zero zero2, pay4_apply]
  simp only [norm_eq' h, hw]

/-- WINDOW 15: the indexer's head weights. -/
theorem out15_apply (a : Fin 8) : out0_15 x0 x1 x2 x3 x4 x5 x6 x7 x8 x9 x10 x11 (ix2 a r) = resWi (T r) W a := by
  unfold out0_15 resWi zed
  rw [View.canon_unit_zero zero2, View.ld_unit_zero (S := S8x1024) zero2, pay12_apply]
  simp only [norm_eq h, h.wi, mul_comm _ (norm (T r) W _)]
  rw [sum_ite]
  split_ifs
  · rfl
  · exact zero_mul _

/-- WINDOW 16: the attention keys. -/
theorem out16_apply (j : Fin 512) : out0_16 x0 x1 x2 x3 x4 x5 x6 x7 x8 x9 x10 x11 (ix2 r j) = resKa (T r) W j := by
  unfold out0_16 resKa zed
  have hw : ∀ k, View.ld x4 r0_6 (ix2 k j) = _ := fun k => (ld_cols x4 768 _ k j (by omega)).trans (h.ka k j)
  rw [View.canon_unit_zero zero2, pay5_apply]
  simp only [norm_eq' h, hw]
  exact sum_ite ..

/-- WINDOW 17: the indexer's keys. -/
theorem out17_apply (j : Fin 256) : out0_17 x0 x1 x2 x3 x4 x5 x6 x7 x8 x9 x10 x11 (ix2 r j) = resKi (T r) W j := by
  unfold out0_17 resKi zed
  have hw : ∀ k, View.ld x4 r0_7 (ix2 k j) = _ := fun k => (ld_cols x4 1280 _ k j (by omega)).trans (h.ki k j)
  rw [View.canon_unit_zero zero2, pay6_apply]
  simp only [norm_eq h, hw]
  exact sum_ite ..

/-- WINDOW 21: the first gate. -/
theorem out21_apply (j : Fin 1024) : out0_21 x0 x1 x2 x3 x4 x5 x6 x7 x8 x9 x10 x11 (ix2 r j) = resGa (T r) W j := by
  unfold out0_21 resGa zed
  have hw : ∀ k, View.ld x4 r0_8 (ix2 k j) = W.win k ⟨1764 + j.val, by omega⟩ := fun k =>
    (ld_cols x4 2304 _ k j (by omega)).trans (h.ga k j)
  rw [View.canon_unit_zero zero2, pay7_apply]
  simp only [norm_eq h, hw]

/-- WINDOW 22: the second gate. -/
theorem out22_apply (j : Fin 1024) : out0_22 x0 x1 x2 x3 x4 x5 x6 x7 x8 x9 x10 x11 (ix2 r j) = resGb (T r) W j := by
  unfold out0_22 resGb zed
  have hw : ∀ k, View.ld x4 r0_9 (ix2 k j) = W.win k ⟨2788 + j.val, by omega⟩ := fun k =>
    (ld_cols x4 3328 _ k j (by omega)).trans (h.gb k j)
  rw [View.canon_unit_zero zero2, pay8_apply]
  simp only [norm_eq h, hw]

omit r

/-- WINDOW 19: the attention values, two chunks of 256 tokens, transposed. -/
theorem out19_apply (c : Fin 2) (i : Fin 128) (l : Fin 256) :
    out0_19 x0 x1 x2 x3 x4 x5 x6 x7 x8 x9 x10 x11 (ix3 c i l) = resVa (T ⟨256 * c.val + l.val, by omega⟩) W i := by
  unfold out0_19
  rw [View.ld_unit_zero (S := S128x1024) zero2]
  unfold resVa zed
  canon_tiles x hx
  all_goals
    obtain ⟨b, i', l', rfl⟩ : ∃ b i' l', x = ix3 b i' l' := ⟨x 0, x 1, x 2, eq_ix3 x⟩
    obtain rfl : b = 0 := Subsingleton.elim _ _
    obtain rfl : i = i' := Fin.ext hx1
    obtain rfl : l = l' := Fin.ext hx2
  · obtain rfl : c = 1 := Fin.ext hx0
    rw [pay11_apply]
    simp only [norm_eq h, h.va, mul_comm _ (norm _ W _)]
    rfl
  · obtain rfl : c = 0 := Fin.ext hx0
    rw [pay10_apply]
    simp only [norm_eq h, h.va, mul_comm _ (norm _ W _)]
    refine Finset.sum_congr rfl fun k _ => ?_
    rw [show (⟨l.val, by omega⟩ : Fin 512) = ⟨256 * (0 : Fin 2).val + l.val, by omega⟩ from Fin.ext (by simp)]

/-- WINDOW 20: the latent values, two chunks of 256 tokens, transposed. -/
theorem out20_apply (c : Fin 2) (i : Fin 512) (l : Fin 256) :
    out0_20 x0 x1 x2 x3 x4 x5 x6 x7 x8 x9 x10 x11 (ix3 c i l) = resVb (T ⟨256 * c.val + l.val, by omega⟩) W i := by
  unfold out0_20
  rw [View.ld_unit_zero (S := S512x256) zero2]
  unfold resVb keyv
  canon_tiles x hx
  all_goals
    obtain ⟨b, i', l', rfl⟩ : ∃ b i' l', x = ix3 b i' l' := ⟨x 0, x 1, x 2, eq_ix3 x⟩
    obtain rfl : b = 0 := Subsingleton.elim _ _
    obtain rfl : i = i' := Fin.ext hx1
    obtain rfl : l = l' := Fin.ext hx2
  · obtain rfl : c = 1 := Fin.ext hx0
    rw [pay48_apply]
    simp only [latK_eq h, h.uv, mul_comm _ (latK _ W _)]
    rfl
  · obtain rfl : c = 0 := Fin.ext hx0
    rw [pay47_apply]
    simp only [latK_eq h, h.uv, mul_comm _ (latK _ W _)]
    refine Finset.sum_congr rfl fun k _ => ?_
    rw [show (⟨l.val, by omega⟩ : Fin 512) = ⟨256 * (0 : Fin 2).val + l.val, by omega⟩ from Fin.ext (by simp)]

/-- The heads' queries are the slots. -/
theorem headQ_eq (hd : Fin 8) (o : Nat) (ho : o = 128 * hd.val)
    (inb : ∀ i, (![0, o] : Fin 2 → Nat) i + S384x128.size i ≤ S384x1024.size i) (r : Fin 512) (l : Fin 128)
    (j : Fin 1024) (hj : j.val = o + l.val) :
    headQ (k0_pay50 x0 x1 x2 x3 x4 x5 x6 x7 x8 x9 x10 x11) (k0_pay51 x0 x1 x2 x3 x4 x5 x6 x7 x8 x9 x10 x11) (k0_pay52 x0 x1 x2 x3 x4 x5 x6 x7 x8 x9 x10 x11) (k0_pay53 x0 x1 x2 x3 x4 x5 x6 x7 x8 x9 x10 x11)
      (View.ld x8 (Rect.unit (s := S384x1024) ![0, o] S384x128.size inb)) r l
      = resQb (T r) W j := by
  subst ho
  rw [show j = ⟨128 * hd.val + l.val, lane_lt hd l⟩ from Fin.ext hj]
  have hw : ∀ k l, View.ld x8 (Rect.unit (s := S384x1024) ![0, 128 * hd.val] S384x128.size inb) (ix2 k l) = _ := fun k l =>
    (ld_cols x8 (128 * hd.val) _ k l (by omega)).trans (h.uq k _)
  unfold headQ resQb
  refine congrArg₂ _ ?_ rfl
  rw [slotRot_eq (T r) W (fun d => quer (T r) W ⟨96 * hd.val + d.val, by omega⟩)
    (fun d => quer (T r) W ⟨96 * hd.val + 64 + d.val, by omega⟩) _ _ _ _ ?_ (cos_eq h r) (dn_eq h r) (up_eq h r) l]
  · have e1 : (128 * hd.val + l.val) / 128 = hd.val := by omega
    have e2 : (⟨(128 * hd.val + l.val) % 128, by omega⟩ : Fin 128) = l := Fin.ext (by show (128 * hd.val + l.val) % 128 = l.val; omega)
    simp only [e1, e2]
  · intro l
    simp only [latQ_eq h, hw]
    rw [sum_ite]
    by_cases h1 : l.val < 64
    · rw [if_pos (by omega), if_pos h1]
      refine congrArg (quer (T r) W) (Fin.ext ?_)
      show 96 * ((128 * hd.val + l.val) / 128) + (128 * hd.val + l.val) % 128 % 96 = 96 * hd.val + l.val % 64
      omega
    by_cases h2 : l.val < 96
    · rw [if_pos (by omega), if_neg h1, if_pos h2]
      refine congrArg (quer (T r) W) (Fin.ext ?_)
      show 96 * ((128 * hd.val + l.val) / 128) + (128 * hd.val + l.val) % 128 % 96 = 96 * hd.val + 64 + l.val % 32
      omega
    · rw [if_neg (by omega), if_neg h1, if_neg h2]

/-- WINDOW 14: the latent queries, slot by slot. -/
theorem out14_apply (r : Fin 512) (j : Fin 1024) : out0_14 x0 x1 x2 x3 x4 x5 x6 x7 x8 x9 x10 x11 (ix2 r j) = resQb (T r) W j := by
  unfold out0_14
  canon_tiles x hx
  all_goals
    obtain ⟨r', l, rfl⟩ : ∃ r' l, x = ix2 r' l := ⟨x 0, x 1, eq_ix2 x⟩
    obtain rfl : r = r' := Fin.ext hx0
  · exact (pay33_apply ..).trans (headQ_eq h 7 896 rfl _ r l j hx1)
  · exact (pay32_apply ..).trans (headQ_eq h 6 768 rfl _ r l j hx1)
  · exact (pay30_apply ..).trans (headQ_eq h 5 640 rfl _ r l j hx1)
  · exact (pay29_apply ..).trans (headQ_eq h 4 512 rfl _ r l j hx1)
  · exact (pay27_apply ..).trans (headQ_eq h 3 384 rfl _ r l j hx1)
  · exact (pay26_apply ..).trans (headQ_eq h 2 256 rfl _ r l j hx1)
  · exact (pay25_apply ..).trans (headQ_eq h 1 128 rfl _ r l j hx1)
  · exact (pay21_apply ..).trans (headQ_eq h 0 0 rfl _ r l j (hx1.trans (Nat.zero_add _).symm))

/-- The shared key slot, rotated. -/
theorem keyRot_eq (r : Fin 512) (l : Fin 128) : k0_pay56 x0 x1 x2 x3 x4 x5 x6 x7 x8 x9 x10 x11 (ix2 r l)
    = slot (T r) W (fun _ => 0) (fun d => zed (T r) W ⟨1732 + d.val, by omega⟩) l := by
  unfold k0_pay56
  rw [pay36_apply]
  refine slotRot_eq (T r) W _ _ _ _ _ _ (fun l => ?_) (cos_eq h r) (dn_eq h r) (up_eq h r) l
  have hw : ∀ k, View.ld x4 r0_37 (ix2 k l) = _ := fun k => (ld_cols x4 2176 _ k l (by omega)).trans (h.kr k l)
  unfold k0_pay55
  rw [pay35_apply]
  simp only [norm_eq h, hw]
  rw [sum_ite]
  by_cases h1 : l.val < 64
  · rw [if_neg (by omega), if_pos h1]
  by_cases h2 : l.val < 96
  · rw [if_pos (by omega), if_neg h1, if_pos h2]
    rfl
  · rw [if_neg (by omega), if_neg h1, if_neg h2]

/-- The heads' keys are the slots. -/
theorem headK_eq (hd : Fin 8) (o : Nat) (ho : o = 128 * hd.val)
    (inb : ∀ i, (![0, o] : Fin 2 → Nat) i + S256x128.size i ≤ S256x1024.size i) (r : Fin 512) (l : Fin 128)
    (j : Fin 1024) (hj : j.val = o + l.val) :
    headK r l (k0_pay56 x0 x1 x2 x3 x4 x5 x6 x7 x8 x9 x10 x11) (k0_pay54 x0 x1 x2 x3 x4 x5 x6 x7 x8 x9 x10 x11)
      (View.ld x10 (Rect.unit (s := S256x1024) ![0, o] S256x128.size inb))
      = resKb (T r) W j := by
  subst ho
  rw [show j = ⟨128 * hd.val + l.val, lane_lt hd l⟩ from Fin.ext hj]
  have hw : ∀ k l, View.ld x10 (Rect.unit (s := S256x1024) ![0, 128 * hd.val] S256x128.size inb) (ix2 k l) = _ := fun k l =>
    (ld_cols x10 (128 * hd.val) _ k l (by omega)).trans (h.uk k _)
  unfold headK resKb
  rw [keyRot_eq h]
  simp only [latK_eq h, hw]
  rw [sum_ite]
  have e1 : (128 * hd.val + l.val) / 128 = hd.val := by omega
  have e2 : (128 * hd.val + l.val) % 128 = l.val := by omega
  simp only [e1, e2]
  unfold slot
  by_cases h1 : l.val < 64
  · rw [if_pos h1, if_pos h1, if_pos h1, add_zero]
    exact congrArg (keyv (T r) W) (Fin.ext (by show 128 * hd.val + l.val = 128 * hd.val + l.val % 64; omega))
  · rw [if_neg h1, if_neg h1, if_neg h1, zero_add]

/-- WINDOW 18: the latent keys, slot by slot. -/
theorem out18_apply (r : Fin 512) (j : Fin 1024) : out0_18 x0 x1 x2 x3 x4 x5 x6 x7 x8 x9 x10 x11 (ix2 r j) = resKb (T r) W j := by
  unfold out0_18
  canon_tiles x hx
  all_goals
    obtain ⟨r', l, rfl⟩ : ∃ r' l, x = ix2 r' l := ⟨x 0, x 1, eq_ix2 x⟩
    obtain rfl : r = r' := Fin.ext hx0
  · exact (pay45_apply ..).trans (headK_eq h 7 896 rfl _ r l j hx1)
  · exact (pay44_apply ..).trans (headK_eq h 6 768 rfl _ r l j hx1)
  · exact (pay43_apply ..).trans (headK_eq h 5 640 rfl _ r l j hx1)
  · exact (pay42_apply ..).trans (headK_eq h 4 512 rfl _ r l j hx1)
  · exact (pay40_apply ..).trans (headK_eq h 3 384 rfl _ r l j hx1)
  · exact (pay39_apply ..).trans (headK_eq h 2 256 rfl _ r l j hx1)
  · exact (pay38_apply ..).trans (headK_eq h 1 128 rfl _ r l j hx1)
  · exact (pay37_apply ..).trans (headK_eq h 0 0 rfl _ r l j (hx1.trans (Nat.zero_add _).symm))

end Cert.Proof.Proj

end
-- ==== Proof.ProjCols.lean ====
module
public import proofs.«01_k».proof.Proof.ProjOut
public import proofs.«01_k».proof.Proof.Gen.Kernel2Ideal.Value
public import Idealize.ShloMosaic.Lib.Pipeline.ValueKit
public import Idealize.ShloMosaic.Lib.StableHlo.ReadAt
@[expose] public section
noncomputable section

/-! # The columns of the input matrix

Before the call the host cuts the input matrix into its streams and lays them side by side in the order the kernel reads them:
keys twice with zeros between, the rotated key inside a slot of 128. Here every column of the joined matrix is traced back to a
column of the input matrix, or to zero. -/

namespace Cert.Proof.Proj
open Cert.Kernel2Ideal Cert.Kernel2Ideal.Gen Idealize.ShloMosaic Idealize.ShloMosaic.TcCoe Idealize.SL.Sem

variable (m : (ℓ : Loc nD τ sig) → Buf (Elt Ideal) ℓ)

/-- The columns cut out for the attention queries. -/
theorem host_v5 (c : Dev nD) (i : Fin 1024) (j : Fin 512) :
    (V m c main_v5 : Vec Ideal S1024x512 .f32) (ix2 i j) = m ((c : Thread nD τ).loc main_arg4) (ix2 i ⟨j.val, by omega⟩) := by
  unfold V
  after_reads_simp
  pointwise []

/-- The columns cut out for the indexer's queries. -/
theorem host_v8 (c : Dev nD) (i : Fin 1024) (j : Fin 256) :
    (V m c main_v8 : Vec Ideal S1024x256 .f32) (ix2 i j) = m ((c : Thread nD τ).loc main_arg4) (ix2 i ⟨768 + j.val, by omega⟩) := by
  unfold V
  after_reads_simp
  pointwise []

/-- The columns cut out for the indexer's keys. -/
theorem host_v9 (c : Dev nD) (i : Fin 1024) (j : Fin 64) :
    (V m c main_v9 : Vec Ideal S1024x64 .f32) (ix2 i j) = m ((c : Thread nD τ).loc main_arg4) (ix2 i ⟨1024 + j.val, by omega⟩) := by
  unfold V
  after_reads_simp
  pointwise []

/-- The columns cut out for the query latent. -/
theorem host_v11 (c : Dev nD) (i : Fin 1024) (j : Fin 384) :
    (V m c main_v11 : Vec Ideal S1024x384 .f32) (ix2 i j) = m ((c : Thread nD τ).loc main_arg4) (ix2 i ⟨1092 + j.val, by omega⟩) := by
  unfold V
  after_reads_simp
  pointwise []

/-- The columns cut out for the key and value latent. -/
theorem host_v12 (c : Dev nD) (i : Fin 1024) (j : Fin 256) :
    (V m c main_v12 : Vec Ideal S1024x256 .f32) (ix2 i j) = m ((c : Thread nD τ).loc main_arg4) (ix2 i ⟨1476 + j.val, by omega⟩) := by
  unfold V
  after_reads_simp
  pointwise []

/-- The columns cut out for the shared rotated key. -/
theorem host_v13 (c : Dev nD) (i : Fin 1024) (j : Fin 32) :
    (V m c main_v13 : Vec Ideal S1024x32 .f32) (ix2 i j) = m ((c : Thread nD τ).loc main_arg4) (ix2 i ⟨1732 + j.val, by omega⟩) := by
  unfold V
  after_reads_simp
  pointwise []

/-- The columns cut out for the first gate. -/
theorem host_v14 (c : Dev nD) (i : Fin 1024) (j : Fin 1024) :
    (V m c main_v14 : Vec Ideal S1024x1024 .f32) (ix2 i j) = m ((c : Thread nD τ).loc main_arg4) (ix2 i ⟨1764 + j.val, by omega⟩) := by
  unfold V
  after_reads_simp
  pointwise []

/-- The columns cut out for the second gate. -/
theorem host_v15 (c : Dev nD) (i : Fin 1024) (j : Fin 1024) :
    (V m c main_v15 : Vec Ideal S1024x1024 .f32) (ix2 i j) = m ((c : Thread nD τ).loc main_arg4) (ix2 i ⟨2788 + j.val, by omega⟩) := by
  unfold V
  after_reads_simp
  pointwise []

/-- The columns cut out for the first attention keys. -/
theorem host_v17 (c : Dev nD) (i : Fin 1024) (j : Fin 64) :
    (V m c main_v17 : Vec Ideal S1024x64 .f32) (ix2 i j) = m ((c : Thread nD τ).loc main_arg4) (ix2 i ⟨512 + j.val, by omega⟩) := by
  unfold V
  after_reads_simp
  pointwise []

/-- The columns cut out for the second attention keys. -/
theorem host_v18 (c : Dev nD) (i : Fin 1024) (j : Fin 64) :
    (V m c main_v18 : Vec Ideal S1024x64 .f32) (ix2 i j) = m ((c : Thread nD τ).loc main_arg4) (ix2 i ⟨512 + (64 + j.val), by omega⟩) := by
  unfold V
  after_reads_simp
  pointwise []

/-- Columns of zeros. -/
theorem host_v16 (c : Dev nD) (i : Fin 1024) (j : Fin 64) : (V m c main_v16 : Vec Ideal S1024x64 .f32) (ix2 i j) = (0 : EReal) := by
  unfold V
  after_reads_simp
  pointwise []

/-- Columns of zeros. -/
theorem host_cst_1 (c : Dev nD) (i : Fin 1024) (j : Fin 64) : (V m c main_cst_1 : Vec Ideal S1024x64 .f32) (ix2 i j) = (0 : EReal) := by
  unfold V
  after_reads_simp
  pointwise []

/-- Columns of zeros. -/
theorem host_cst_2 (c : Dev nD) (i : Fin 1024) (j : Fin 32) : (V m c main_cst_2 : Vec Ideal S1024x32 .f32) (ix2 i j) = (0 : EReal) := by
  unfold V
  after_reads_simp
  pointwise []

/-- What the host wrote before its operation `n` and not again, it still holds at the end. -/
theorem host_later (c : Dev nD) (n : ℕ) (W : List (Ref sig .tc))
    (hW : (([hostOps0, hostOps0_1, hostOps0_2, hostOps0_3, hostOps0_4].flatten : List (HloOp τ sig (Elt Ideal))).drop n).map (HloOp.writes)
      = W.map fun w => {Proc.devRef (τ := τ) .tc w}) (r : Ref sig .tc) (hr : r ∉ W) :
    StableHlo.upto [hostOps0, hostOps0_1, hostOps0_2, hostOps0_3, hostOps0_4].flatten (fun b => m (c, b)) n (Proc.devRef .tc r)
      = V m c r := by
  have e := StableHlo.after_unwritten W hW hr
    (StableHlo.upto [hostOps0, hostOps0_1, hostOps0_2, hostOps0_3, hostOps0_4].flatten (fun b => m (c, b)) n)
  unfold StableHlo.upto at e ⊢
  rw [← e, ← StableHlo.after_append, List.take_append_drop]

/-- What the host writes from its operation 25 on. -/
def lateRefs : List (Ref sig .tc) := [main_v19, main_v20, main_v21, main_v22, main_v23, main_v24, main_v25,
  main_v26, main_v27, main_v28, main_c, main_call0_v0, main_v29, main_v30, main_v31, main_v32, main_v33, main_c_5, main_call1_v0,
  main_v34, main_v35, main_v36, main_v37, main_v38, main_v39, main_v40]

/-- What was written before operation 25 holds at the end. -/
theorem late25 (c : Dev nD) (r : Ref sig .tc) (hr : r ∉ lateRefs) :
    StableHlo.upto [hostOps0, hostOps0_1, hostOps0_2, hostOps0_3, hostOps0_4].flatten (fun b => m (c, b)) 25 (Proc.devRef .tc r)
      = V m c r := host_later m c 25 lateRefs rfl r hr
/-- The same from operation 26 on. -/
theorem late26 (c : Dev nD) (r : Ref sig .tc) (hr : r ∉ lateRefs.drop 1) :
    StableHlo.upto [hostOps0, hostOps0_1, hostOps0_2, hostOps0_3, hostOps0_4].flatten (fun b => m (c, b)) 26 (Proc.devRef .tc r)
      = V m c r := host_later m c 26 (lateRefs.drop 1) rfl r hr
/-- The same from operation 27 on. -/
theorem late27 (c : Dev nD) (r : Ref sig .tc) (hr : r ∉ lateRefs.drop 2) :
    StableHlo.upto [hostOps0, hostOps0_1, hostOps0_2, hostOps0_3, hostOps0_4].flatten (fun b => m (c, b)) 27 (Proc.devRef .tc r)
      = V m c r := host_later m c 27 (lateRefs.drop 2) rfl r hr

/-- The pieces of buffer 19. -/
theorem host_v19 (c : Dev nD) : (V m c main_v19 : Vec Ideal S1024x2176 .f32)
    = concatenate S1024x2176 1 [⟨S1024x512, V m c main_v5⟩, ⟨S1024x256, V m c main_v8⟩, ⟨S1024x64, V m c main_v17⟩, ⟨S1024x64, V m c main_v16⟩, ⟨S1024x64, V m c main_v16⟩, ⟨S1024x64, V m c main_v17⟩, ⟨S1024x64, V m c main_v18⟩, ⟨S1024x64, V m c main_v16⟩, ⟨S1024x64, V m c main_v16⟩, ⟨S1024x64, V m c main_v18⟩, ⟨S1024x64, V m c main_v9⟩, ⟨S1024x64, V m c main_v16⟩, ⟨S1024x64, V m c main_v16⟩, ⟨S1024x64, V m c main_v9⟩, ⟨S1024x384, V m c main_v11⟩, ⟨S1024x256, V m c main_v12⟩]
      concatenates_S1024x512_S1024x256_S1024x64_S1024x64_S1024x64_S1024x64_S1024x64_S1024x64_S1024x64_S1024x64_S1024x64_S1024x64_S1024x64_S1024x64_S1024x384_S1024x256_S1024x2176_d1 := by
  have e := late25 m c
  suffices h : ∀ R, _ = R → (V m c main_v19 : Vec Ideal S1024x2176 .f32) = R from h _ rfl
  intro R hR
  unfold V
  after_reads_simp
  rw [← hR, ← e main_v5 (by decide), ← e main_v8 (by decide), ← e main_v17 (by decide), ← e main_v16 (by decide), ← e main_v18 (by decide), ← e main_v9 (by decide), ← e main_v11 (by decide), ← e main_v12 (by decide)]
  rfl

/-- The pieces of buffer 20. -/
theorem host_v20 (c : Dev nD) : (V m c main_v20 : Vec Ideal S1024x2176 .f32)
    = concatenate S1024x2176 1 [⟨S1024x64, V m c main_cst_1⟩, ⟨S1024x32, V m c main_v13⟩, ⟨S1024x32, V m c main_cst_2⟩, ⟨S1024x1024, V m c main_v14⟩, ⟨S1024x1024, V m c main_v15⟩]
      concatenates_S1024x64_S1024x32_S1024x32_S1024x1024_S1024x1024_S1024x2176_d1 := by
  have e := late26 m c
  suffices h : ∀ R, _ = R → (V m c main_v20 : Vec Ideal S1024x2176 .f32) = R from h _ rfl
  intro R hR
  unfold V
  after_reads_simp
  rw [← hR, ← e main_cst_1 (by decide), ← e main_v13 (by decide), ← e main_cst_2 (by decide), ← e main_v14 (by decide), ← e main_v15 (by decide)]
  rfl

/-- The left half of the joined matrix. -/
theorem v22_left (c : Dev nD) (i : Fin 1024) (k : Fin 2176) :
    (V m c main_v22 : Vec Ideal S1024x4352 .bf16) (ix2 i ⟨k.val, by omega⟩) = (V m c main_v19 : Vec Ideal S1024x2176 .f32) (ix2 i k) := by
  rw [← late27 m c main_v19 (by decide)]
  generalize hR : StableHlo.upto _ _ 27 (Proc.devRef .tc main_v19) = R
  unfold V
  after_reads_simp
  rw [hR]
  pointwise []

/-- The right half of the joined matrix. -/
theorem v22_right (c : Dev nD) (i : Fin 1024) (k : Fin 2176) :
    (V m c main_v22 : Vec Ideal S1024x4352 .bf16) (ix2 i ⟨2176 + k.val, by omega⟩) = (V m c main_v20 : Vec Ideal S1024x2176 .f32) (ix2 i k) := by
  rw [← late27 m c main_v20 (by decide)]
  generalize hR : StableHlo.upto _ _ 27 (Proc.devRef .tc main_v20) = R
  unfold V
  after_reads_simp
  rw [hR]
  pointwise []

/-- The shapes on the left. -/
def shapes16 : List Shape := [S1024x512, S1024x256, S1024x64, S1024x64, S1024x64, S1024x64, S1024x64, S1024x64, S1024x64, S1024x64,
  S1024x64, S1024x64, S1024x64, S1024x64, S1024x384, S1024x256]
/-- The shapes on the right. -/
def shapes5 : List Shape := [S1024x64, S1024x32, S1024x32, S1024x1024, S1024x1024]

/-- Pieces side by side, read at a column: piece `p` begins after `pre` columns. -/
theorem piece (xs : List ((s : Shape) × (s.Idx → EReal))) (h : Shape.Concatenates (xs.map (·.1)) S1024x2176 1)
    (p : ℕ) (hp : p < xs.length) (w : ℕ) (x : (⟨2, ![1024, w]⟩ : Shape).Idx → EReal) (hx : xs[p] = ⟨_, x⟩) (shapes : List Shape)
    (hs : xs.map (·.1) = shapes) (pre : ℕ)
    (hpre : ((shapes.take p).map fun s => if h : s.rank = S1024x2176.rank then s.size ((1 : Fin 2).cast h.symm) else 0).sum = pre)
    (i : Fin 1024) (j : Fin w) (k : Fin 2176) (hk : k.val = pre + j.val) :
    concatenate S1024x2176 1 xs h (ix2 i k) = x (ix2 i j) :=
  concatenate_apply_piece 1 xs h (ix2 i k) p hp _ x hx rfl pre (by rw [← hpre, ← hs, List.map_take]) (ix2 i j)
    (fun b hb => by
      match b with
      | ⟨0, _⟩ => rfl
      | ⟨1, _⟩ => exact absurd rfl hb) hk.symm

variable (c : Dev nD) (i : Fin 1024)

/-- The joined matrix, entry by entry. -/
abbrev joined (k : Fin 4352) : EReal := (V m c main_v22 : Vec Ideal S1024x4352 .bf16) (ix2 i k)
/-- The input matrix, entry by entry. -/
abbrev input (k : Fin 3812) : EReal := m ((c : Thread nD τ).loc main_arg4) (ix2 i k)

/-- Two columns of one number are one column. -/
theorem joined_at {a b : ℕ} (e : a = b) (ha hb) : joined m c i ⟨a, ha⟩ = joined m c i ⟨b, hb⟩ := by subst e; rfl
/-- The same for the input matrix. -/
theorem input_at {a b : ℕ} (e : a = b) (ha hb) : input m c i ⟨a, ha⟩ = input m c i ⟨b, hb⟩ := by subst e; rfl

/-- Attention queries. -/
theorem col_qa (j : Fin 512) : joined m c i ⟨0 + j.val, by omega⟩ = input m c i ⟨j.val, by omega⟩ := by
  refine (v22_left m c i ⟨0 + j.val, by omega⟩).trans ?_
  rw [host_v19]
  exact (piece _ _ 0 (by show _ < 16; omega) 512 _ rfl shapes16 rfl 0 rfl i j _ rfl).trans (host_v5 m c i j)

/-- The indexer's queries. -/
theorem col_qi (j : Fin 256) : joined m c i ⟨512 + j.val, by omega⟩ = input m c i ⟨768 + j.val, by omega⟩ := by
  refine (v22_left m c i ⟨512 + j.val, by omega⟩).trans ?_
  rw [host_v19]
  exact (piece _ _ 1 (by show _ < 16; omega) 256 _ rfl shapes16 rfl 512 (by decide +kernel) i j _ rfl).trans (host_v8 m c i j)

/-- The query latent. -/
theorem col_cq (j : Fin 384) : joined m c i ⟨1536 + j.val, by omega⟩ = input m c i ⟨1092 + j.val, by omega⟩ := by
  refine (v22_left m c i ⟨1536 + j.val, by omega⟩).trans ?_
  rw [host_v19]
  exact (piece _ _ 14 (by show _ < 16; omega) 384 _ rfl shapes16 rfl 1536 (by decide +kernel) i j _ rfl).trans (host_v11 m c i j)

/-- The key and value latent. -/
theorem col_ckv (j : Fin 256) : joined m c i ⟨1920 + j.val, by omega⟩ = input m c i ⟨1476 + j.val, by omega⟩ := by
  refine (v22_left m c i ⟨1920 + j.val, by omega⟩).trans ?_
  rw [host_v19]
  exact (piece _ _ 15 (by show _ < 16; omega) 256 _ rfl shapes16 rfl 1920 (by decide +kernel) i j _ rfl).trans (host_v12 m c i j)

/-- The first gate. -/
theorem col_ga (j : Fin 1024) : joined m c i ⟨2304 + j.val, by omega⟩ = input m c i ⟨1764 + j.val, by omega⟩ := by
  refine (joined_at m c i (show 2304 + j.val = 2176 + (128 + j.val) by omega) _ (by omega)).trans ?_
  refine (v22_right m c i ⟨128 + j.val, by omega⟩).trans ?_
  rw [host_v20]
  exact (piece _ _ 3 (by show _ < 5; omega) 1024 _ rfl shapes5 rfl 128 (by decide +kernel) i j _ rfl).trans (host_v14 m c i j)

/-- The second gate. -/
theorem col_gb (j : Fin 1024) : joined m c i ⟨3328 + j.val, by omega⟩ = input m c i ⟨2788 + j.val, by omega⟩ := by
  refine (joined_at m c i (show 3328 + j.val = 2176 + (1152 + j.val) by omega) _ (by omega)).trans ?_
  refine (v22_right m c i ⟨1152 + j.val, by omega⟩).trans ?_
  rw [host_v20]
  exact (piece _ _ 4 (by show _ < 5; omega) 1024 _ rfl shapes5 rfl 1152 (by decide +kernel) i j _ rfl).trans (host_v15 m c i j)

/-- The rotated key, in the rotated lanes. -/
theorem col_kr_mid (j : Fin 32) : joined m c i ⟨2240 + j.val, by omega⟩ = input m c i ⟨1732 + j.val, by omega⟩ := by
  refine (joined_at m c i (show 2240 + j.val = 2176 + (64 + j.val) by omega) _ (by omega)).trans ?_
  refine (v22_right m c i ⟨64 + j.val, by omega⟩).trans ?_
  rw [host_v20]
  exact (piece _ _ 1 (by show _ < 5; omega) 32 _ rfl shapes5 rfl 64 (by decide +kernel) i j _ rfl).trans (host_v13 m c i j)

/-- The first attention keys, stored twice. -/
theorem ka_first (q : ℕ) (hq : q = 0 ∨ q = 3) (l : Fin 64) (k : Fin 2176) (hk : k.val = 768 + 64 * q + l.val) :
    (V m c main_v19 : Vec Ideal S1024x2176 .f32) (ix2 i k) = input m c i ⟨512 + l.val, by omega⟩ := by
  rw [host_v19]
  refine (piece _ _ (2 + q) (by show _ < 16; omega) 64 (V m c main_v17) ?_ shapes16 rfl (768 + 64 * q) ?_ i l k hk).trans (host_v17 m c i l)
  all_goals rcases hq with rfl|rfl
  all_goals first | decide +kernel | rfl

/-- The second attention keys, stored twice. -/
theorem ka_second (q : ℕ) (hq : q = 4 ∨ q = 7) (l : Fin 64) (k : Fin 2176) (hk : k.val = 768 + 64 * q + l.val) :
    (V m c main_v19 : Vec Ideal S1024x2176 .f32) (ix2 i k) = input m c i ⟨512 + (64 + l.val), by omega⟩ := by
  rw [host_v19]
  refine (piece _ _ (2 + q) (by show _ < 16; omega) 64 (V m c main_v18) ?_ shapes16 rfl (768 + 64 * q) ?_ i l k hk).trans (host_v18 m c i l)
  all_goals rcases hq with rfl|rfl
  all_goals first | decide +kernel | rfl

/-- The zeros between the attention keys. -/
theorem ka_zero (q : ℕ) (hq : q = 1 ∨ q = 2 ∨ q = 5 ∨ q = 6) (l : Fin 64) (k : Fin 2176) (hk : k.val = 768 + 64 * q + l.val) :
    (V m c main_v19 : Vec Ideal S1024x2176 .f32) (ix2 i k) = (0 : EReal) := by
  rw [host_v19]
  refine (piece _ _ (2 + q) (by show _ < 16; omega) 64 (V m c main_v16) ?_ shapes16 rfl (768 + 64 * q) ?_ i l k hk).trans (host_v16 m c i l)
  all_goals rcases hq with rfl|rfl|rfl|rfl
  all_goals first | decide +kernel | rfl

/-- The indexer's keys, stored twice. -/
theorem ki_keys (q : ℕ) (hq : q = 0 ∨ q = 3) (l : Fin 64) (k : Fin 2176) (hk : k.val = 1280 + 64 * q + l.val) :
    (V m c main_v19 : Vec Ideal S1024x2176 .f32) (ix2 i k) = input m c i ⟨1024 + l.val, by omega⟩ := by
  rw [host_v19]
  refine (piece _ _ (10 + q) (by show _ < 16; omega) 64 (V m c main_v9) ?_ shapes16 rfl (1280 + 64 * q) ?_ i l k hk).trans (host_v9 m c i l)
  all_goals rcases hq with rfl|rfl
  all_goals first | decide +kernel | rfl

/-- The zeros between the indexer's keys. -/
theorem ki_zero (q : ℕ) (hq : q = 1 ∨ q = 2) (l : Fin 64) (k : Fin 2176) (hk : k.val = 1280 + 64 * q + l.val) :
    (V m c main_v19 : Vec Ideal S1024x2176 .f32) (ix2 i k) = (0 : EReal) := by
  rw [host_v19]
  refine (piece _ _ (10 + q) (by show _ < 16; omega) 64 (V m c main_v16) ?_ shapes16 rfl (1280 + 64 * q) ?_ i l k hk).trans (host_v16 m c i l)
  all_goals rcases hq with rfl|rfl
  all_goals first | decide +kernel | rfl

/-- The attention keys with their zeros. -/
theorem col_ka (j : Fin 512) : joined m c i ⟨768 + j.val, by omega⟩
    = if twice j.val then input m c i ⟨512 + 64 * (j.val / 256) + j.val % 64, by omega⟩ else 0 := by
  refine (v22_left m c i ⟨768 + j.val, by omega⟩).trans ?_
  have hj : 768 + j.val = 768 + 64 * (j.val / 64) + j.val % 64 := by omega
  unfold twice
  split
  · rename_i h
    by_cases h4 : j.val < 256
    · refine (ka_first m c i (j.val / 64) (by omega) ⟨j.val % 64, by omega⟩ _ hj).trans ?_
      exact input_at m c i (by show 512 + j.val % 64 = _; omega) _ _
    · refine (ka_second m c i (j.val / 64) (by omega) ⟨j.val % 64, by omega⟩ _ hj).trans ?_
      exact input_at m c i (by show 512 + (64 + j.val % 64) = _; omega) _ _
  · rename_i h
    exact ka_zero m c i (j.val / 64) (by omega) ⟨j.val % 64, by omega⟩ _ hj

/-- The indexer's keys with their zeros. -/
theorem col_ki (j : Fin 256) : joined m c i ⟨1280 + j.val, by omega⟩
    = if twice j.val then input m c i ⟨1024 + j.val % 64, by omega⟩ else 0 := by
  refine (v22_left m c i ⟨1280 + j.val, by omega⟩).trans ?_
  have hj : 1280 + j.val = 1280 + 64 * (j.val / 64) + j.val % 64 := by omega
  unfold twice
  split
  · rename_i h
    exact ki_keys m c i (j.val / 64) (by omega) ⟨j.val % 64, by omega⟩ _ hj
  · rename_i h
    exact ki_zero m c i (j.val / 64) (by omega) ⟨j.val % 64, by omega⟩ _ hj

/-- The shared rotated key inside its slot. -/
theorem col_kr (l : Fin 128) : joined m c i ⟨2176 + l.val, by omega⟩
    = if 64 ≤ l.val ∧ l.val < 96 then input m c i ⟨1732 + l.val % 32, by omega⟩ else 0 := by
  split
  · rename_i h
    refine (joined_at m c i (show 2176 + l.val = 2240 + (l.val - 64) by omega) _ (by omega)).trans ?_
    refine (col_kr_mid m c i ⟨l.val - 64, by omega⟩).trans ?_
    exact input_at m c i (by show 1732 + (l.val - 64) = _; omega) _ _
  · rename_i h
    refine (v22_right m c i ⟨l.val, by omega⟩).trans ?_
    rw [host_v20]
    by_cases h6 : l.val < 64
    · exact (piece _ _ 0 (by show _ < 5; omega) 64 _ rfl shapes5 rfl 0 rfl i ⟨l.val, h6⟩ _ (by show l.val = 0 + l.val; omega)).trans (host_cst_1 m c i _)
    · exact (piece _ _ 2 (by show _ < 5; omega) 32 _ rfl shapes5 rfl 96 (by decide +kernel) i ⟨l.val - 96, by omega⟩ _ (by show l.val = 96 + (l.val - 96); omega)).trans
        (host_cst_2 m c i _)

end Cert.Proof.Proj
end
-- ==== Proof.ProjReads.lean ====
module
public import proofs.«01_k».proof.Proof.ProjCols
@[expose] public section
noncomputable section

/-! # What the projection blocks are

The blocks a grid point reads are traced back to the arguments: the token blocks are 512 consecutive rows, the weight blocks
are the whole weights as the host laid them out. -/

namespace Cert.Proof.Proj

open Cert.Kernel2Ideal Cert.Kernel2Ideal.Gen Idealize.ShloMosaic Idealize.ShloMosaic.TcCoe Idealize.SL.Sem

/-- The batch of flat row `g`. -/
abbrev bat (g : Fin 32768) : Fin 16 := ⟨g.val / 2048, by have := g.isLt; omega⟩
/-- The position of flat row `g` in its batch. -/
abbrev pos (g : Fin 32768) : Fin 2048 := ⟨g.val % 2048, by omega⟩

/-- Token `g` of the arguments. -/
abbrev argToken (a0 : Vec Ideal S16x2048x1024 .f32) (a1 : Vec Ideal S16x2048 .i32) (g : Fin 32768) : Token where
  x k := a0 (ix3 (bat g) (pos g) k)
  p := (FloatOps.sitofp .f32 (a1 (ix2 (bat g) (pos g)) : BitVec 32) : Ideal .f32)

/-- The weights of the arguments. -/
abbrev argWeights (a2 : Vec Ideal S16 .f32) (a3 : Vec Ideal S1x1024 .f32) (a4 : Vec Ideal S1024x3812 .f32)
    (a5 : Vec Ideal S1x384 .f32) (a6 : Vec Ideal S384x768 .f32) (a7 : Vec Ideal S1x256 .f32) (a8 : Vec Ideal S256x1024 .f32) :
    Weights where
  f d := a2 (ix1 d)
  gm k := a3 (ix2 0 k)
  win k j := a4 (ix2 k j)
  gcq k := a5 (ix2 0 k)
  uq k j := a6 (ix2 k j)
  gckv k := a7 (ix2 0 k)
  ukv k j := a8 (ix2 k j)

variable (m : (ℓ : Loc nD τ sig) → Buf (Elt Ideal) ℓ)

/-- The flat row that row `r` of point `t`'s blocks is. -/
abbrev flat (t : Fin cfg0.N) (r : Fin 512) : Fin 32768 :=
  ⟨512 * t.val + r.val, by have h : t.val < 64 := t.isLt; have := r.isLt; omega⟩

/-- The placement of the token blocks. -/
theorem idx_rows : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val
    ∧ win0_1.index t 1 = 0)

/-- The weight blocks are whole: their index never moves. -/
theorem idx_whole : ∀ t : Fin cfg0.N, ∀ a : Fin 2, win0_2.index t a = 0 ∧ win0_3.index t a = 0 ∧ win0_4.index t a = 0
    ∧ win0_5.index t a = 0 ∧ win0_6.index t a = 0 ∧ win0_7.index t a = 0 ∧ win0_8.index t a = 0 ∧ win0_9.index t a = 0
    ∧ win0_10.index t a = 0 ∧ win0_11.index t a = 0 :=
  (by decide +kernel : ∀ t : Fin grid0.N, ∀ a : Fin 2, win0_2.index t a = 0 ∧ win0_3.index t a = 0 ∧ win0_4.index t a = 0
    ∧ win0_5.index t a = 0 ∧ win0_6.index t a = 0 ∧ win0_7.index t a = 0 ∧ win0_8.index t a = 0 ∧ win0_9.index t a = 0
    ∧ win0_10.index t a = 0 ∧ win0_11.index t a = 0)

variable (c : Dev nD)

/-- The padding is zero. -/
theorem sitofp_zero : (FloatOps.sitofp .f32 (0#32 : BitVec 32) : Ideal .f32) = (0 : EReal) := by
  show ((((0#32 : BitVec 32).toInt : ℤ) : ℝ) : EReal) = 0
  simp

/-- The activations as the host flattens them. -/
theorem host_v4 (g : Fin 32768) (k : Fin 1024) : (V m c main_v4 : Vec Ideal S32768x1024 .f32) (ix2 g k)
    = m ((c : Thread nD τ).loc main_arg0) (ix3 (bat g) (pos g) k) := by
  unfold V
  after_reads_simp
  pointwise []

/-- The positions as the host flattens them. -/
theorem host_v1 (g : Fin 32768) : (V m c main_v1 : Vec Ideal S32768x1 .f32) (ix2 g 0)
    = (FloatOps.sitofp .f32 (m ((c : Thread nD τ).loc main_arg1) (ix2 (bat g) (pos g)) : BitVec 32) : Ideal .f32) := by
  unfold V
  after_reads_simp
  pointwise []

/-- The frequencies, twice inside a slot. -/
theorem host_v3 (l : Fin 128) (hl : 64 ≤ l.val ∧ l.val < 96) : (V m c main_v3 : Vec Ideal S1x128 .f32) (ix2 0 l)
    = m ((c : Thread nD τ).loc main_arg2) (ix1 ⟨l.val % 16, by omega⟩) := by
  unfold V
  after_reads_simp
  dsimp only [Matrix.cons_val]
  pointwise []
  after_reads_simp
  pointwise []
  rw [dif_neg (by omega)]
  split
  · exact congrArg (fun t => m ((c : Thread nD τ).loc main_arg2) (ix1 t)) (Fin.ext (show l.val - 64 = l.val % 16 by omega))
  · rw [dif_pos (by omega)]
    exact congrArg (fun t => m ((c : Thread nD τ).loc main_arg2) (ix1 t)) (Fin.ext (show l.val - (64 + 16) = l.val % 16 by omega))

/-- The values' columns, transposed. -/
theorem host_v24 (i : Fin 128) (k : Fin 1024) : (V m c main_v24 : Vec Ideal S128x1024 .bf16) (ix2 i k)
    = m ((c : Thread nD τ).loc main_arg4) (ix2 k ⟨640 + i.val, by omega⟩) := by
  unfold V
  after_reads_simp
  pointwise []

/-- The head weights' columns, transposed, under which rows of zeros. -/
theorem host_v27 (a : Fin 8) (k : Fin 1024) : (V m c main_v27 : Vec Ideal S8x1024 .bf16) (ix2 a k)
    = if a.val < 4 then m ((c : Thread nD τ).loc main_arg4) (ix2 k ⟨1088 + a.val % 4, by omega⟩) else (0 : EReal) := by
  unfold V
  after_reads_simp
  pointwise []
  after_reads_simp
  pointwise []
  by_cases h : a.val < 4
  · rw [dif_pos h, if_pos h]
    exact congrArg (fun t => m ((c : Thread nD τ).loc main_arg4) (ix2 k t)) (Fin.ext (show 1088 + a.val = 1088 + a.val % 4 by omega))
  · rw [dif_neg h, if_neg h]

/-- The queries' matrix, 96 columns to a slot of 128. -/
theorem host_v31 (k : Fin 384) (j : Fin 1024) : (V m c main_v31 : Vec Ideal S384x1024 .bf16) (ix2 k j)
    = if j.val % 128 < 96 then m ((c : Thread nD τ).loc main_arg6) (ix2 k ⟨96 * (j.val / 128) + j.val % 128 % 96, by omega⟩)
      else (0 : EReal) := by
  unfold V
  after_reads_simp
  simp -implicitDefEqProofs only [StableHlo.TRef.toBuf, StableHlo.TRef.ofBuf, cast_cast, cast_eq]
  pointwise []
  by_cases h : j.val % 128 < 96
  · have h2 : j.val / 128 < 8 ∧ j.val % 128 < 96 := ⟨by have := j.isLt; omega, h⟩
    refine (dif_pos h2).trans ((?_ : _ = _).trans (if_pos h).symm)
    exact congrArg (fun t => m ((c : Thread nD τ).loc main_arg6) (ix2 k t))
      (Fin.ext (show j.val / 128 * 96 + j.val % 128 = 96 * (j.val / 128) + j.val % 128 % 96 by omega))
  · refine (dif_neg fun e => h e.2).trans ((?_ : _ = _).trans (if_neg h).symm)
    exact sitofp_zero

/-- The keys' half of the key and value matrix, 64 columns to a slot of 128. -/
theorem host_v36 (k : Fin 256) (j : Fin 1024) : (V m c main_v36 : Vec Ideal S256x1024 .bf16) (ix2 k j)
    = if j.val % 128 < 64 then m ((c : Thread nD τ).loc main_arg8) (ix2 k j) else (0 : EReal) := by
  unfold V
  after_reads_simp
  simp -implicitDefEqProofs only [StableHlo.TRef.toBuf, StableHlo.TRef.ofBuf, cast_cast, cast_eq]
  pointwise []
  by_cases h : j.val % 128 < 64
  · have h2 : j.val / 128 < 8 ∧ j.val % 128 < 64 := ⟨by have := j.isLt; omega, h⟩
    refine (dif_pos h2).trans ((?_ : _ = _).trans (if_pos h).symm)
    exact congrArg (fun t => m ((c : Thread nD τ).loc main_arg8) (ix2 k t))
      (Fin.ext (show j.val / 128 * 128 + j.val % 128 = j.val by omega))
  · refine (dif_neg fun e => h e.2).trans ((?_ : _ = _).trans (if_neg h).symm)
    exact sitofp_zero

/-- The values' half of the key and value matrix, transposed. -/
theorem host_v40 (i : Fin 512) (k : Fin 256) : (V m c main_v40 : Vec Ideal S512x256 .bf16) (ix2 i k)
    = m ((c : Thread nD τ).loc main_arg8) (ix2 k ⟨128 * (i.val / 64) + 64 + i.val % 64, by omega⟩) := by
  unfold V
  after_reads_simp
  pointwise []
  exact congrArg (fun t => m ((c : Thread nD τ).loc main_arg8) (ix2 k t))
    (Fin.ext (show i.val / 64 * 128 + (64 + i.val % 64) = 128 * (i.val / 64) + 64 + i.val % 64 by omega))

/-- A block of activations. -/
theorem iblk_0 (t : Fin cfg0.N) (r : Fin 512) (k : Fin 1024) :
    iblk m c 0 t (ix2 r k) = (V m c main_v4 : Vec Ideal S32768x1024 .f32) (ix2 (flat t r) k) := by
  blk_ext! [iblk, idx_rows t]

/-- A block of positions. -/
theorem iblk_1 (t : Fin cfg0.N) (r : Fin 512) :
    iblk m c 1 t (ix2 r 0) = (V m c main_v1 : Vec Ideal S32768x1 .f32) (ix2 (flat t r) 0) := by
  blk_ext! [iblk, idx_rows t]

/-- The joined matrix is read whole. -/
theorem iblk_4 (t : Fin cfg0.N) (k : Fin 1024) (j : Fin 4352) :
    iblk m c 4 t (ix2 k j) = (V m c main_v22 : Vec Ideal S1024x4352 .bf16) (ix2 k j) := by
  blk_ext! [iblk, idx_whole t]

/-- The transposed values' columns, read whole. -/
theorem iblk_5 (t : Fin cfg0.N) (i : Fin 128) (j : Fin 1024) :
    iblk m c 5 t (ix2 i j) = (V m c main_v24 : Vec Ideal S128x1024 .bf16) (ix2 i j) := by
  blk_ext! [iblk, idx_whole t]

/-- The head weights' columns, read whole. -/
theorem iblk_6 (t : Fin cfg0.N) (i : Fin 8) (j : Fin 1024) :
    iblk m c 6 t (ix2 i j) = (V m c main_v27 : Vec Ideal S8x1024 .bf16) (ix2 i j) := by
  blk_ext! [iblk, idx_whole t]

/-- The queries' matrix, read whole. -/
theorem iblk_8 (t : Fin cfg0.N) (i : Fin 384) (j : Fin 1024) :
    iblk m c 8 t (ix2 i j) = (V m c main_v31 : Vec Ideal S384x1024 .bf16) (ix2 i j) := by
  blk_ext! [iblk, idx_whole t]

/-- The keys' matrix, read whole. -/
theorem iblk_10 (t : Fin cfg0.N) (i : Fin 256) (j : Fin 1024) :
    iblk m c 10 t (ix2 i j) = (V m c main_v36 : Vec Ideal S256x1024 .bf16) (ix2 i j) := by
  blk_ext! [iblk, idx_whole t]

/-- The values' matrix, read whole. -/
theorem iblk_11 (t : Fin cfg0.N) (i : Fin 512) (j : Fin 256) :
    iblk m c 11 t (ix2 i j) = (V m c main_v40 : Vec Ideal S512x256 .bf16) (ix2 i j) := by
  blk_ext! [iblk, idx_whole t]

/-- The frequencies, read whole. -/
theorem iblk_2 (t : Fin cfg0.N) (l : Fin 128) :
    iblk m c 2 t (ix2 0 l) = (V m c main_v3 : Vec Ideal S1x128 .f32) (ix2 0 l) := by
  blk_ext! [iblk, idx_whole t]

/-- The first gain, read whole. -/
theorem iblk_3 (t : Fin cfg0.N) (j : Fin 1024) :
    iblk m c 3 t (ix2 0 j) = m ((c : Thread nD τ).loc main_arg3) (ix2 0 j) := by
  blk_ext! [iblk, V, idx_whole t]

/-- The second gain, read whole. -/
theorem iblk_7 (t : Fin cfg0.N) (j : Fin 384) :
    iblk m c 7 t (ix2 0 j) = m ((c : Thread nD τ).loc main_arg5) (ix2 0 j) := by
  blk_ext! [iblk, V, idx_whole t]

/-- The third gain, read whole. -/
theorem iblk_9 (t : Fin cfg0.N) (j : Fin 256) :
    iblk m c 9 t (ix2 0 j) = m ((c : Thread nD τ).loc main_arg7) (ix2 0 j) := by
  blk_ext! [iblk, V, idx_whole t]

/-- The blocks of point `t` hold its 512 tokens and the weights. -/
theorem reads (t : Fin cfg0.N) : Reads (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (fun r => argToken (m ((c : Thread nD τ).loc main_arg0)) (m ((c : Thread nD τ).loc main_arg1)) (flat t r))
    (argWeights (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8))) where
  x r k := (iblk_0 m c t r k).trans (host_v4 m c _ k)
  p r := (iblk_1 m c t r).trans (host_v1 m c _)
  f l hl := (iblk_2 m c t l).trans (host_v3 m c l hl)
  gm k := iblk_3 m c t k
  qa k j := (iblk_4 m c t k _).trans (col_qa m c k j)
  qi k j := (iblk_4 m c t k _).trans (col_qi m c k j)
  ka k j := (iblk_4 m c t k _).trans (col_ka m c k j)
  ki k j := (iblk_4 m c t k _).trans (col_ki m c k j)
  cq k j := (iblk_4 m c t k _).trans (col_cq m c k j)
  ckv k j := (iblk_4 m c t k _).trans (col_ckv m c k j)
  kr k l := (iblk_4 m c t k _).trans (col_kr m c k l)
  ga k j := (iblk_4 m c t k _).trans (col_ga m c k j)
  gb k j := (iblk_4 m c t k _).trans (col_gb m c k j)
  va i k := (iblk_5 m c t i k).trans (host_v24 m c i k)
  wi a k := (iblk_6 m c t a k).trans (host_v27 m c a k)
  gcq j := iblk_7 m c t j
  uq k j := (iblk_8 m c t k j).trans (host_v31 m c k j)
  gckv j := iblk_9 m c t j
  uk k j := (iblk_10 m c t k j).trans (host_v36 m c k j)
  uv i k := (iblk_11 m c t i k).trans (host_v40 m c i k)

end Cert.Proof.Proj
end
-- ==== Proof.ProjArray.lean ====
module
public import proofs.«01_k».proof.Proof.ProjReads
public import Idealize.ShloMosaic.Lib.Pipeline.ValueKit
@[expose] public section
noncomputable section

/-! # What the projection kernel's arrays hold

Each of the eleven arrays after the run holds, token by token, what ProjRow.lean says of the arguments' token: the blocks written
tile the arrays. -/

namespace Cert.Proof.Proj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Token `g` of the kernel's arguments. -/
abbrev tok (g : Fin 32768) : Token :=
  argToken (m ((c : Thread nD τ).loc main_arg0)) (m ((c : Thread nD τ).loc main_arg1)) g

/-- The weights of the kernel's arguments. -/
abbrev wts : Weights :=
  argWeights (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- Where the row blocks are written. -/
theorem idx_out : ∀ t : Fin cfg0.N, win0_12.index t 0 = t.val ∧ win0_12.index t 1 = 0 ∧ win0_13.index t 0 = t.val ∧ win0_13.index t 1 = 0
    ∧ win0_14.index t 0 = t.val ∧ win0_14.index t 1 = 0 ∧ win0_16.index t 0 = t.val ∧ win0_16.index t 1 = 0
    ∧ win0_17.index t 0 = t.val ∧ win0_17.index t 1 = 0 ∧ win0_18.index t 0 = t.val ∧ win0_18.index t 1 = 0
    ∧ win0_21.index t 0 = t.val ∧ win0_21.index t 1 = 0 ∧ win0_22.index t 0 = t.val ∧ win0_22.index t 1 = 0 :=
  (by decide +kernel : ∀ t : Fin grid0.N, win0_12.index t 0 = t.val ∧ win0_12.index t 1 = 0 ∧ win0_13.index t 0 = t.val ∧ win0_13.index t 1 = 0
    ∧ win0_14.index t 0 = t.val ∧ win0_14.index t 1 = 0 ∧ win0_16.index t 0 = t.val ∧ win0_16.index t 1 = 0
    ∧ win0_17.index t 0 = t.val ∧ win0_17.index t 1 = 0 ∧ win0_18.index t 0 = t.val ∧ win0_18.index t 1 = 0
    ∧ win0_21.index t 0 = t.val ∧ win0_21.index t 1 = 0 ∧ win0_22.index t 0 = t.val ∧ win0_22.index t 1 = 0)

/-- Where the transposed head weights and the values are written. -/
theorem idx_out_t : ∀ t : Fin cfg0.N, win0_15.index t 0 = 0 ∧ win0_15.index t 1 = t.val ∧ win0_19.index t 0 = t.val
    ∧ win0_19.index t 1 = 0 ∧ win0_19.index t 2 = 0 ∧ win0_20.index t 0 = t.val ∧ win0_20.index t 1 = 0 ∧ win0_20.index t 2 = 0 :=
  (by decide +kernel : ∀ t : Fin grid0.N, win0_15.index t 0 = 0 ∧ win0_15.index t 1 = t.val ∧ win0_19.index t 0 = t.val
    ∧ win0_19.index t 1 = 0 ∧ win0_19.index t 2 = 0 ∧ win0_20.index t 0 = t.val ∧ win0_20.index t 1 = 0
    ∧ win0_20.index t 2 = 0)

/-- The array of the attention queries. -/
def arrQa : Buf (Elt Ideal) ((c : Thread nD τ).loc main_v41_0) := fun i => resQa (tok m c (i 0)) (wts m c) (i 1)

/-- The array of the attention queries after the run. -/
theorem arrQa_eq : (dats m 0 c).arrAt 12 cfg0.N = arrQa m c := by
  refine (dats m 0 c).arrAt_eq_of_covers 12 (arrQa m c) (by decide +kernel) fun t hf y => ?_
  rw [after0_12]
  blk_simp [idx_out t]
  rw [show y = ix2 (y 0) (y 1) from eq_ix2 y]
  have e : _ = arrQa m c (ix2 (flat t (y 0)) (y 1)) := out12_apply (reads m c t) (y 0) (y 1)
  refine e.trans (congrArg (arrQa m c) (show ix2 (flat t (y 0)) (y 1) = _ from funext fun a => Fin.ext ?_))
  match a with
  | ⟨0, _⟩ => show 512 * t.val + (y 0).val = win0_12.index t 0 * 512 + 1 * (y 0).val; rw [(idx_out t).1]; omega
  | ⟨1, _⟩ => show (y 1).val = win0_12.index t 1 * 512 + 1 * (y 1).val; rw [(idx_out t).2.1]; omega

/-- The array of the indexer's queries. -/
def arrQi : Buf (Elt Ideal) ((c : Thread nD τ).loc main_v41_1) := fun i => resQi (tok m c (i 0)) (wts m c) (i 1)

/-- The array of the indexer's queries after the run. -/
theorem arrQi_eq : (dats m 0 c).arrAt 13 cfg0.N = arrQi m c := by
  refine (dats m 0 c).arrAt_eq_of_covers 13 (arrQi m c) (by decide +kernel) fun t hf y => ?_
  rw [after0_13]
  blk_simp [idx_out t]
  rw [show y = ix2 (y 0) (y 1) from eq_ix2 y]
  have e : _ = arrQi m c (ix2 (flat t (y 0)) (y 1)) := out13_apply (reads m c t) (y 0) (y 1)
  refine e.trans (congrArg (arrQi m c) (show ix2 (flat t (y 0)) (y 1) = _ from funext fun a => Fin.ext ?_))
  match a with
  | ⟨0, _⟩ => show 512 * t.val + (y 0).val = win0_13.index t 0 * 512 + 1 * (y 0).val; rw [(idx_out t).2.2.1]; omega
  | ⟨1, _⟩ => show (y 1).val = win0_13.index t 1 * 256 + 1 * (y 1).val; rw [(idx_out t).2.2.2.1]; omega

/-- The array of the latent queries. -/
def arrQb : Buf (Elt Ideal) ((c : Thread nD τ).loc main_v41_2) := fun i => resQb (tok m c (i 0)) (wts m c) (i 1)

/-- The array of the latent queries after the run. -/
theorem arrQb_eq : (dats m 0 c).arrAt 14 cfg0.N = arrQb m c := by
  refine (dats m 0 c).arrAt_eq_of_covers 14 (arrQb m c) (by decide +kernel) fun t hf y => ?_
  rw [after0_14]
  blk_simp [idx_out t]
  rw [show y = ix2 (y 0) (y 1) from eq_ix2 y]
  have e : _ = arrQb m c (ix2 (flat t (y 0)) (y 1)) := out14_apply (reads m c t) (y 0) (y 1)
  refine e.trans (congrArg (arrQb m c) (show ix2 (flat t (y 0)) (y 1) = _ from funext fun a => Fin.ext ?_))
  match a with
  | ⟨0, _⟩ => show 512 * t.val + (y 0).val = win0_14.index t 0 * 512 + 1 * (y 0).val; rw [(idx_out t).2.2.2.2.1]; omega
  | ⟨1, _⟩ => show (y 1).val = win0_14.index t 1 * 1024 + 1 * (y 1).val; rw [(idx_out t).2.2.2.2.2.1]; omega

/-- The array of the attention keys. -/
def arrKa : Buf (Elt Ideal) ((c : Thread nD τ).loc main_v41_4) := fun i => resKa (tok m c (i 0)) (wts m c) (i 1)

/-- The array of the attention keys after the run. -/
theorem arrKa_eq : (dats m 0 c).arrAt 16 cfg0.N = arrKa m c := by
  refine (dats m 0 c).arrAt_eq_of_covers 16 (arrKa m c) (by decide +kernel) fun t hf y => ?_
  rw [after0_16]
  blk_simp [idx_out t]
  rw [show y = ix2 (y 0) (y 1) from eq_ix2 y]
  have e : _ = arrKa m c (ix2 (flat t (y 0)) (y 1)) := out16_apply (reads m c t) (y 0) (y 1)
  refine e.trans (congrArg (arrKa m c) (show ix2 (flat t (y 0)) (y 1) = _ from funext fun a => Fin.ext ?_))
  match a with
  | ⟨0, _⟩ => show 512 * t.val + (y 0).val = win0_16.index t 0 * 512 + 1 * (y 0).val; rw [(idx_out t).2.2.2.2.2.2.1]; omega
  | ⟨1, _⟩ => show (y 1).val = win0_16.index t 1 * 512 + 1 * (y 1).val; rw [(idx_out t).2.2.2.2.2.2.2.1]; omega

/-- The array of the indexer's keys. -/
def arrKi : Buf (Elt Ideal) ((c : Thread nD τ).loc main_v41_5) := fun i => resKi (tok m c (i 0)) (wts m c) (i 1)

/-- The array of the indexer's keys after the run. -/
theorem arrKi_eq : (dats m 0 c).arrAt 17 cfg0.N = arrKi m c := by
  refine (dats m 0 c).arrAt_eq_of_covers 17 (arrKi m c) (by decide +kernel) fun t hf y => ?_
  rw [after0_17]
  blk_simp [idx_out t]
  rw [show y = ix2 (y 0) (y 1) from eq_ix2 y]
  have e : _ = arrKi m c (ix2 (flat t (y 0)) (y 1)) := out17_apply (reads m c t) (y 0) (y 1)
  refine e.trans (congrArg (arrKi m c) (show ix2 (flat t (y 0)) (y 1) = _ from funext fun a => Fin.ext ?_))
  match a with
  | ⟨0, _⟩ => show 512 * t.val + (y 0).val = win0_17.index t 0 * 512 + 1 * (y 0).val; rw [(idx_out t).2.2.2.2.2.2.2.2.1]; omega
  | ⟨1, _⟩ => show (y 1).val = win0_17.index t 1 * 256 + 1 * (y 1).val; rw [(idx_out t).2.2.2.2.2.2.2.2.2.1]; omega

/-- The array of the latent keys. -/
def arrKb : Buf (Elt Ideal) ((c : Thread nD τ).loc main_v41_6) := fun i => resKb (tok m c (i 0)) (wts m c) (i 1)

/-- The array of the latent keys after the run. -/
theorem arrKb_eq : (dats m 0 c).arrAt 18 cfg0.N = arrKb m c := by
  refine (dats m 0 c).arrAt_eq_of_covers 18 (arrKb m c) (by decide +kernel) fun t hf y => ?_
  rw [after0_18]
  blk_simp [idx_out t]
  rw [show y = ix2 (y 0) (y 1) from eq_ix2 y]
  have e : _ = arrKb m c (ix2 (flat t (y 0)) (y 1)) := out18_apply (reads m c t) (y 0) (y 1)
  refine e.trans (congrArg (arrKb m c) (show ix2 (flat t (y 0)) (y 1) = _ from funext fun a => Fin.ext ?_))
  match a with
  | ⟨0, _⟩ => show 512 * t.val + (y 0).val = win0_18.index t 0 * 512 + 1 * (y 0).val; rw [(idx_out t).2.2.2.2.2.2.2.2.2.2.1]; omega
  | ⟨1, _⟩ => show (y 1).val = win0_18.index t 1 * 1024 + 1 * (y 1).val; rw [(idx_out t).2.2.2.2.2.2.2.2.2.2.2.1]; omega

/-- The array of the first gate. -/
def arrGa : Buf (Elt Ideal) ((c : Thread nD τ).loc main_v41_9) := fun i => resGa (tok m c (i 0)) (wts m c) (i 1)

/-- The array of the first gate after the run. -/
theorem arrGa_eq : (dats m 0 c).arrAt 21 cfg0.N = arrGa m c := by
  refine (dats m 0 c).arrAt_eq_of_covers 21 (arrGa m c) (by decide +kernel) fun t hf y => ?_
  rw [after0_21]
  blk_simp [idx_out t]
  rw [show y = ix2 (y 0) (y 1) from eq_ix2 y]
  have e : _ = arrGa m c (ix2 (flat t (y 0)) (y 1)) := out21_apply (reads m c t) (y 0) (y 1)
  refine e.trans (congrArg (arrGa m c) (show ix2 (flat t (y 0)) (y 1) = _ from funext fun a => Fin.ext ?_))
  match a with
  | ⟨0, _⟩ => show 512 * t.val + (y 0).val = win0_21.index t 0 * 512 + 1 * (y 0).val; rw [(idx_out t).2.2.2.2.2.2.2.2.2.2.2.2.1]; omega
  | ⟨1, _⟩ => show (y 1).val = win0_21.index t 1 * 1024 + 1 * (y 1).val; rw [(idx_out t).2.2.2.2.2.2.2.2.2.2.2.2.2.1]; omega

/-- The array of the second gate. -/
def arrGb : Buf (Elt Ideal) ((c : Thread nD τ).loc main_v41_10) := fun i => resGb (tok m c (i 0)) (wts m c) (i 1)

/-- The array of the second gate after the run. -/
theorem arrGb_eq : (dats m 0 c).arrAt 22 cfg0.N = arrGb m c := by
  refine (dats m 0 c).arrAt_eq_of_covers 22 (arrGb m c) (by decide +kernel) fun t hf y => ?_
  rw [after0_22]
  blk_simp [idx_out t]
  rw [show y = ix2 (y 0) (y 1) from eq_ix2 y]
  have e : _ = arrGb m c (ix2 (flat t (y 0)) (y 1)) := out22_apply (reads m c t) (y 0) (y 1)
  refine e.trans (congrArg (arrGb m c) (show ix2 (flat t (y 0)) (y 1) = _ from funext fun a => Fin.ext ?_))
  match a with
  | ⟨0, _⟩ => show 512 * t.val + (y 0).val = win0_22.index t 0 * 512 + 1 * (y 0).val; rw [(idx_out t).2.2.2.2.2.2.2.2.2.2.2.2.2.2.1]; omega
  | ⟨1, _⟩ => show (y 1).val = win0_22.index t 1 * 1024 + 1 * (y 1).val; rw [(idx_out t).2.2.2.2.2.2.2.2.2.2.2.2.2.2.2]; omega

/-- The array of the indexer's head weights, transposed. -/
def arrWi : Buf (Elt Ideal) ((c : Thread nD τ).loc main_v41_3) := fun i => resWi (tok m c (i 1)) (wts m c) (i 0)

/-- The array of the indexer's head weights after the run. -/
theorem arrWi_eq : (dats m 0 c).arrAt 15 cfg0.N = arrWi m c := by
  refine (dats m 0 c).arrAt_eq_of_covers 15 (arrWi m c) (by decide +kernel) fun t hf y => ?_
  rw [after0_15]
  blk_simp [idx_out_t t]
  rw [show y = ix2 (y 0) (y 1) from eq_ix2 y]
  have e : _ = arrWi m c (ix2 (y 0) (flat t (y 1))) := out15_apply (reads m c t) (y 1) (y 0)
  refine e.trans (congrArg (arrWi m c) (show ix2 (y 0) (flat t (y 1)) = _ from funext fun a => Fin.ext ?_))
  match a with
  | ⟨0, _⟩ => show (y 0).val = win0_15.index t 0 * 8 + 1 * (y 0).val; rw [(idx_out_t t).1]; omega
  | ⟨1, _⟩ => show 512 * t.val + (y 1).val = win0_15.index t 1 * 512 + 1 * (y 1).val; rw [(idx_out_t t).2.1]; omega

/-- Lane `l` of chunk `b`: the chunks are 256 tokens each. -/
abbrev lane (b : Fin 128) (l : Fin 256) : Fin 32768 := ⟨256 * b.val + l.val, by have := b.isLt; have := l.isLt; omega⟩

/-- The chunk that chunk `d` of point `t`'s blocks is. -/
abbrev chunk (t : Fin cfg0.N) (d : Fin 2) : Fin 128 :=
  ⟨2 * t.val + d.val, by have h : t.val < 64 := t.isLt; have := d.isLt; omega⟩

/-- The array of the attention values, in chunks. -/
def arrVa : Buf (Elt Ideal) ((c : Thread nD τ).loc main_v41_7) := fun i => resVa (tok m c (lane (i 0) (i 2))) (wts m c) (i 1)

/-- The array of the attention values after the run. -/
theorem arrVa_eq : (dats m 0 c).arrAt 19 cfg0.N = arrVa m c := by
  refine (dats m 0 c).arrAt_eq_of_covers 19 (arrVa m c) (by decide +kernel) fun t hf y => ?_
  rw [after0_19]
  blk_simp [idx_out_t t]
  rw [show y = ix3 (y 0) (y 1) (y 2) from eq_ix3 y]
  refine (out19_apply (reads m c t) (y 0) (y 1) (y 2)).trans ?_
  have e : flat t ⟨256 * (y 0).val + (y 2).val, by have h0 : (y 0).val < 2 := (y 0).isLt; have h2 : (y 2).val < 256 := (y 2).isLt; omega⟩
      = lane (chunk t (y 0)) (y 2) := Fin.ext (by show 512 * t.val + (256 * (y 0).val + (y 2).val) = 256 * (2 * t.val + (y 0).val) + (y 2).val; omega)
  rw [e]
  have e' : resVa (tok m c (lane (chunk t (y 0)) (y 2))) (wts m c) (y 1) = arrVa m c (ix3 (chunk t (y 0)) (y 1) (y 2)) := rfl
  refine e'.trans (congrArg (arrVa m c) (show ix3 (chunk t (y 0)) (y 1) (y 2) = _ from funext fun a => Fin.ext ?_))
  match a with
  | ⟨0, _⟩ => show 2 * t.val + (y 0).val = win0_19.index t 0 * 2 + 1 * (y 0).val; rw [(idx_out_t t).2.2.1]; omega
  | ⟨1, _⟩ => show (y 1).val = win0_19.index t 1 * 128 + 1 * (y 1).val; rw [(idx_out_t t).2.2.2.1]; omega
  | ⟨2, _⟩ => show (y 2).val = win0_19.index t 2 * 256 + 1 * (y 2).val; rw [(idx_out_t t).2.2.2.2.1]; omega

/-- The array of the latent values, in chunks. -/
def arrVb : Buf (Elt Ideal) ((c : Thread nD τ).loc main_v41_8) := fun i => resVb (tok m c (lane (i 0) (i 2))) (wts m c) (i 1)

/-- The array of the latent values after the run. -/
theorem arrVb_eq : (dats m 0 c).arrAt 20 cfg0.N = arrVb m c := by
  refine (dats m 0 c).arrAt_eq_of_covers 20 (arrVb m c) (by decide +kernel) fun t hf y => ?_
  rw [after0_20]
  blk_simp [idx_out_t t]
  rw [show y = ix3 (y 0) (y 1) (y 2) from eq_ix3 y]
  refine (out20_apply (reads m c t) (y 0) (y 1) (y 2)).trans ?_
  have e : flat t ⟨256 * (y 0).val + (y 2).val, by have h0 : (y 0).val < 2 := (y 0).isLt; have h2 : (y 2).val < 256 := (y 2).isLt; omega⟩
      = lane (chunk t (y 0)) (y 2) := Fin.ext (by show 512 * t.val + (256 * (y 0).val + (y 2).val) = 256 * (2 * t.val + (y 0).val) + (y 2).val; omega)
  rw [e]
  have e' : resVb (tok m c (lane (chunk t (y 0)) (y 2))) (wts m c) (y 1) = arrVb m c (ix3 (chunk t (y 0)) (y 1) (y 2)) := rfl
  refine e'.trans (congrArg (arrVb m c) (show ix3 (chunk t (y 0)) (y 1) (y 2) = _ from funext fun a => Fin.ext ?_))
  match a with
  | ⟨0, _⟩ => show 2 * t.val + (y 0).val = win0_20.index t 0 * 2 + 1 * (y 0).val; rw [(idx_out_t t).2.2.2.2.2.1]; omega
  | ⟨1, _⟩ => show (y 1).val = win0_20.index t 1 * 512 + 1 * (y 1).val; rw [(idx_out_t t).2.2.2.2.2.2.1]; omega
  | ⟨2, _⟩ => show (y 2).val = win0_20.index t 2 * 256 + 1 * (y 2).val; rw [(idx_out_t t).2.2.2.2.2.2.2]; omega

end Cert.Proof.Proj

end
-- ==== Proof.ProjRef.lean ====
module
public import proofs.«01_k».proof.Proof.ProjRow
public import proofs.«01_k».proof.Proof.Gen.Reference2Ideal.Read
@[expose] public section
noncomputable section

/-! # The reference's projections, row by row

Every intermediate array of the reference, read at a token, is what ProjRow.lean says of that token. -/

namespace Cert.Proof.Proj

open Cert.Reference2Ideal Cert.Reference2Ideal.Read Idealize.ShloMosaic

variable (x0 : (⟨S16x2048x1024, .f32⟩ : BufTy).Contents (Elt Ideal)) (x1 : (⟨S16x2048, .i32⟩ : BufTy).Contents (Elt Ideal))
  (x2 : (⟨S16, .f32⟩ : BufTy).Contents (Elt Ideal)) (x3 : (⟨S1x1024, .f32⟩ : BufTy).Contents (Elt Ideal))
  (x4 : (⟨S1024x3812, .f32⟩ : BufTy).Contents (Elt Ideal)) (x5 : (⟨S1x384, .f32⟩ : BufTy).Contents (Elt Ideal))
  (x6 : (⟨S384x768, .f32⟩ : BufTy).Contents (Elt Ideal)) (x7 : (⟨S1x256, .f32⟩ : BufTy).Contents (Elt Ideal))
  (x8 : (⟨S256x1024, .f32⟩ : BufTy).Contents (Elt Ideal))

/-- The token at position `p` of batch `b`. -/
abbrev tokenAt (b : Fin 16) (p : Fin 2048) : Token where
  x k := x0 (ix3 b p k)
  p := (FloatOps.sitofp .f32 (x1 (ix2 b p) : BitVec 32) : Ideal .f32)

/-- The weights. -/
abbrev refWeights : Weights where
  f d := x2 (ix1 d)
  gm k := x3 (ix2 0 k)
  win k j := x4 (ix2 k j)
  gcq k := x5 (ix2 0 k)
  uq k j := x6 (ix2 k j)
  gckv k := x7 (ix2 0 k)
  ukv k j := x8 (ix2 k j)

variable (b : Fin 16) (p : Fin 2048)

/-- The normalised row. -/
theorem ref_norm (k : Fin 1024) : val_main_v13 (F := Ideal) x0 x3 (ix3 b p k)
    = norm (tokenAt x0 x1 b p) (refWeights x2 x3 x4 x5 x6 x7 x8) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The input projection. -/
theorem ref_zed (k : Fin 3812) : val_main_v14 (F := Ideal) x0 x3 x4 (ix3 b p k)
    = zed (tokenAt x0 x1 b p) (refWeights x2 x3 x4 x5 x6 x7 x8) k := by
  have hn := ref_norm x0 x1 x2 x3 x4 x5 x6 x7 x8 b p
  unfold val_main_v14
  generalize val_main_v13 (F := Ideal) x0 x3 = v at hn ⊢
  pointwise []
  simp only [hn]
  rfl

/-- The query latent. -/
theorem ref_latQ (k : Fin 384) : val_main_v39 (F := Ideal) x0 x3 x4 x5 (ix3 b p k)
    = latQ (tokenAt x0 x1 b p) (refWeights x2 x3 x4 x5 x6 x7 x8) k := by
  have hz := ref_zed x0 x1 x2 x3 x4 x5 x6 x7 x8 b p
  unfold val_main_v39 val_main_v36 val_main_v35 val_main_v34 val_main_v33 val_main_v31 val_main_v29 val_main_v28 val_main_v27 val_main_v21
  generalize val_main_v14 (F := Ideal) x0 x3 x4 = v at hz ⊢
  pointwise [val_main_v38, val_main_v37, val_main_v26, val_main_v32, val_main_v30, val_main_cst_2, val_main_cst_3, val_main_cst_4]
  simp only [hz]
  rfl

/-- The queries before the rotation. -/
theorem ref_quer (k : Fin 768) : val_main_v40 (F := Ideal) x0 x3 x4 x5 x6 (ix3 b p k)
    = quer (tokenAt x0 x1 b p) (refWeights x2 x3 x4 x5 x6 x7 x8) k := by
  have hn := ref_latQ x0 x1 x2 x3 x4 x5 x6 x7 x8 b p
  unfold val_main_v40
  generalize val_main_v39 (F := Ideal) x0 x3 x4 x5 = v at hn ⊢
  pointwise []
  simp only [hn]
  rfl

/-- The key and value latent. -/
theorem ref_latK (k : Fin 256) : val_main_v79 (F := Ideal) x0 x3 x4 x7 (ix3 b p k)
    = latK (tokenAt x0 x1 b p) (refWeights x2 x3 x4 x5 x6 x7 x8) k := by
  have hz := ref_zed x0 x1 x2 x3 x4 x5 x6 x7 x8 b p
  unfold val_main_v79 val_main_v76 val_main_v75 val_main_v74 val_main_v73 val_main_v71 val_main_v69 val_main_v68 val_main_v67 val_main_v22
  generalize val_main_v14 (F := Ideal) x0 x3 x4 = v at hz ⊢
  pointwise [val_main_v78, val_main_v77, val_main_v66, val_main_v72, val_main_v70, val_main_cst_5, val_main_cst_6, val_main_cst_7]
  simp only [hz]
  rfl

/-- The keys and values. -/
theorem ref_keyv (k : Fin 1024) : val_main_v80 (F := Ideal) x0 x3 x4 x7 x8 (ix3 b p k)
    = keyv (tokenAt x0 x1 b p) (refWeights x2 x3 x4 x5 x6 x7 x8) k := by
  have hn := ref_latK x0 x1 x2 x3 x4 x5 x6 x7 x8 b p
  unfold val_main_v80
  generalize val_main_v79 (F := Ideal) x0 x3 x4 x7 = v at hn ⊢
  pointwise []
  simp only [hn]
  rfl

/-- The cosines. -/
theorem ref_cos (d : Fin 16) : val_main_v50 (F := Ideal) x1 x2 (ix4 b p 0 d)
    = Ideal.cos (angle (tokenAt x0 x1 b p) (refWeights x2 x3 x4 x5 x6 x7 x8) d) := by
  pointwise [val_main_v50, val_main_v49, val_main_v48, val_main_v47, val_main_v46, val_main_v45, val_main_v44]
  rfl

/-- The sines. -/
theorem ref_sin (d : Fin 16) : val_main_v51 (F := Ideal) x1 x2 (ix4 b p 0 d)
    = Ideal.sin (angle (tokenAt x0 x1 b p) (refWeights x2 x3 x4 x5 x6 x7 x8) d) := by
  pointwise [val_main_v51, val_main_v49, val_main_v48, val_main_v47, val_main_v46, val_main_v45, val_main_v44]
  rfl

/-- Two lanes of one number are one lane. -/
theorem at_eq {n : ℕ} (q : Fin n → EReal) {a b : ℕ} (e : a = b) (ha hb) : q ⟨a, ha⟩ = q ⟨b, hb⟩ := by subst e; rfl

/-- Lanes put side by side, the rotated halves after the 64 lanes and the zeros last, are the slot. -/
theorem slot_of (T : Token) (W : Weights) (v : Fin 64 → EReal) (w : Fin 32 → EReal) (l : Fin 128) :
    (if h1 : l.val < 96 then
      if h2 : l.val < 64 then v ⟨l.val, h2⟩
      else if h3 : l.val - 64 < 16 then
        w ⟨l.val - 64, by omega⟩ * Ideal.cos (angle T W ⟨l.val - 64, h3⟩)
          - w ⟨16 + (l.val - 64), by omega⟩ * Ideal.sin (angle T W ⟨l.val - 64, h3⟩)
      else w ⟨16 + (l.val - 64 - 16), by omega⟩ * Ideal.cos (angle T W ⟨l.val - 64 - 16, by omega⟩)
          + w ⟨l.val - 64 - 16, by omega⟩ * Ideal.sin (angle T W ⟨l.val - 64 - 16, by omega⟩)
    else 0) = slot T W v w l := by
  unfold slot
  by_cases h1 : l.val < 64
  · rw [dif_pos (by omega), dif_pos h1, if_pos h1]
    exact at_eq v (by omega) _ _
  by_cases h2 : l.val < 80
  · rw [dif_pos (by omega), dif_neg h1, dif_pos (by omega), if_neg h1, if_pos h2]
    exact at_eq (ropeLo T W w) (a := l.val - 64) (by omega) (by omega) _
  by_cases h3 : l.val < 96
  · rw [dif_pos (by omega), dif_neg h1, dif_neg (by omega), if_neg h1, if_neg h2, if_pos h3]
    exact at_eq (ropeHi T W w) (a := l.val - 64 - 16) (by omega) (by omega) _
  · rw [dif_neg (by omega), if_neg h1, if_neg h2, if_neg h3]

/-- The queries' slots before the scale. -/
theorem ref_slotQ (h : Fin 8) (l : Fin 128) : val_main_v116 (F := Ideal) x0 x1 x2 x3 x4 x5 x6 (ix4 b p h l)
    = slot (tokenAt x0 x1 b p) (refWeights x2 x3 x4 x5 x6 x7 x8)
        (fun d => quer (tokenAt x0 x1 b p) (refWeights x2 x3 x4 x5 x6 x7 x8) ⟨h.val * 96 + d.val, by have := d.isLt; omega⟩)
        (fun d => quer (tokenAt x0 x1 b p) (refWeights x2 x3 x4 x5 x6 x7 x8) ⟨h.val * 96 + (64 + d.val), by have := d.isLt; omega⟩) l := by
  have hq := ref_quer x0 x1 x2 x3 x4 x5 x6 x7 x8 b p
  have hc := ref_cos x0 x1 x2 x3 x4 x5 x6 x7 x8 b p
  have hs := ref_sin x0 x1 x2 x3 x4 x5 x6 x7 x8 b p
  unfold val_main_v116 val_main_v65 val_main_v64 val_main_v63 val_main_v62 val_main_v61 val_main_v60 val_main_v59 val_main_v58
    val_main_v57 val_main_v56 val_main_v55 val_main_v54 val_main_v53 val_main_v52 val_main_v43 val_main_v42 val_main_v41
  generalize val_main_v40 (F := Ideal) x0 x3 x4 x5 x6 = v at hq ⊢
  generalize val_main_v50 (F := Ideal) x1 x2 = vc at hc ⊢
  generalize val_main_v51 (F := Ideal) x1 x2 = vs at hs ⊢
  generalize tokenAt x0 x1 b p = T at hq hc hs ⊢
  generalize refWeights x2 x3 x4 x5 x6 x7 x8 = W at hq hc hs ⊢
  generalize quer T W = q at hq ⊢
  pointwise [val_main_v115, val_main_cst_11]
  simp only [hq, hc, hs]
  exact slot_of T W (fun d => q ⟨h.val * 96 + d.val, by have := d.isLt; omega⟩)
    (fun d => q ⟨h.val * 96 + (64 + d.val), by have := d.isLt; omega⟩) l

/-- The keys' slots. -/
theorem ref_slotK (h : Fin 8) (l : Fin 128) : val_main_v134 (F := Ideal) x0 x1 x2 x3 x4 x7 x8 (ix4 b p h l)
    = slot (tokenAt x0 x1 b p) (refWeights x2 x3 x4 x5 x6 x7 x8)
        (fun d => keyv (tokenAt x0 x1 b p) (refWeights x2 x3 x4 x5 x6 x7 x8) ⟨h.val * 128 + d.val, by have := d.isLt; omega⟩)
        (fun d => zed (tokenAt x0 x1 b p) (refWeights x2 x3 x4 x5 x6 x7 x8) ⟨1732 + d.val, by have := d.isLt; omega⟩) l := by
  have hz := ref_zed x0 x1 x2 x3 x4 x5 x6 x7 x8 b p
  have hq := ref_keyv x0 x1 x2 x3 x4 x5 x6 x7 x8 b p
  have hc := ref_cos x0 x1 x2 x3 x4 x5 x6 x7 x8 b p
  have hs := ref_sin x0 x1 x2 x3 x4 x5 x6 x7 x8 b p
  have e89 : val_main_v89 (F := Ideal) x1 x2 = val_main_v50 (F := Ideal) x1 x2 := rfl
  have e90 : val_main_v90 (F := Ideal) x1 x2 = val_main_v51 (F := Ideal) x1 x2 := rfl
  unfold val_main_v134 val_main_v102 val_main_v101 val_main_v100 val_main_v99 val_main_v98 val_main_v97 val_main_v96 val_main_v95
    val_main_v94 val_main_v93 val_main_v92 val_main_v91 val_main_v82 val_main_v81 val_main_v23
  rw [e89, e90]
  generalize val_main_v80 (F := Ideal) x0 x3 x4 x7 x8 = v at hq ⊢
  generalize val_main_v14 (F := Ideal) x0 x3 x4 = z at hz ⊢
  generalize val_main_v50 (F := Ideal) x1 x2 = vc at hc ⊢
  generalize val_main_v51 (F := Ideal) x1 x2 = vs at hs ⊢
  generalize tokenAt x0 x1 b p = T at hq hz hc hs ⊢
  generalize refWeights x2 x3 x4 x5 x6 x7 x8 = W at hq hz hc hs ⊢
  generalize keyv T W = q at hq ⊢
  generalize zed T W = u at hz ⊢
  pointwise [val_main_v133, val_main_cst_17]
  simp only [hq, hc, hs, hz]
  exact slot_of T W (fun d => q ⟨h.val * 128 + d.val, by have := d.isLt; omega⟩)
    (fun d => u ⟨1732 + d.val, by have := d.isLt; omega⟩) l

end Cert.Proof.Proj

end
-- ==== Proof.ProjRefOut.lean ====
module
public import proofs.«01_k».proof.Proof.ProjRef
@[expose] public section
noncomputable section

/-! # The reference's eleven projection results

Each result array of the reference, read at a token, is what ProjRow.lean says of that token. -/

namespace Cert.Proof.Proj

open Cert.Reference2Ideal Cert.Reference2Ideal.Read Idealize.ShloMosaic

variable (x0 : (⟨S16x2048x1024, .f32⟩ : BufTy).Contents (Elt Ideal)) (x1 : (⟨S16x2048, .i32⟩ : BufTy).Contents (Elt Ideal))
  (x2 : (⟨S16, .f32⟩ : BufTy).Contents (Elt Ideal)) (x3 : (⟨S1x1024, .f32⟩ : BufTy).Contents (Elt Ideal))
  (x4 : (⟨S1024x3812, .f32⟩ : BufTy).Contents (Elt Ideal)) (x5 : (⟨S1x384, .f32⟩ : BufTy).Contents (Elt Ideal))
  (x6 : (⟨S384x768, .f32⟩ : BufTy).Contents (Elt Ideal)) (x7 : (⟨S1x256, .f32⟩ : BufTy).Contents (Elt Ideal))
  (x8 : (⟨S256x1024, .f32⟩ : BufTy).Contents (Elt Ideal))

/-- The batch of flat row `g`. -/
abbrev bt (g : Fin 32768) : Fin 16 := ⟨g.val / 2048, by have := g.isLt; omega⟩
/-- The position of flat row `g` in its batch. -/
abbrev ps (g : Fin 32768) : Fin 2048 := ⟨g.val % 2048, by omega⟩

/-- The attention queries. -/
theorem ref_Qa (g : Fin 32768) (j : Fin 512) : val_main_v112 (F := Ideal) x0 x3 x4 (ix2 g j)
    = resQa (tokenAt x0 x1 (bt g) (ps g)) (refWeights x2 x3 x4 x5 x6 x7 x8) j := by
  have hz := ref_zed x0 x1 x2 x3 x4 x5 x6 x7 x8 (bt g) (ps g)
  unfold val_main_v112 val_main_v111 val_main_v110 val_main_v15
  generalize val_main_v14 (F := Ideal) x0 x3 x4 = v at hz ⊢
  generalize tokenAt x0 x1 (bt g) (ps g) = T at hz ⊢
  generalize refWeights x2 x3 x4 x5 x6 x7 x8 = W at hz ⊢
  pointwise [val_main_v109, val_main_cst_10]
  simp only [hz]
  rfl

/-- The indexer's queries. -/
theorem ref_Qi (g : Fin 32768) (j : Fin 256) : val_main_v114 (F := Ideal) x0 x3 x4 (ix2 g j)
    = resQi (tokenAt x0 x1 (bt g) (ps g)) (refWeights x2 x3 x4 x5 x6 x7 x8) j := by
  have hz := ref_zed x0 x1 x2 x3 x4 x5 x6 x7 x8 (bt g) (ps g)
  unfold val_main_v114 val_main_v113 val_main_v18
  generalize val_main_v14 (F := Ideal) x0 x3 x4 = v at hz ⊢
  generalize tokenAt x0 x1 (bt g) (ps g) = T at hz ⊢
  generalize refWeights x2 x3 x4 x5 x6 x7 x8 = W at hz ⊢
  pointwise []
  simp only [hz]
  rfl

/-- The attention keys. -/
theorem ref_Ka (g : Fin 32768) (j : Fin 512) : val_main_v127 (F := Ideal) x0 x3 x4 (ix2 g j)
    = resKa (tokenAt x0 x1 (bt g) (ps g)) (refWeights x2 x3 x4 x5 x6 x7 x8) j := by
  have hz := ref_zed x0 x1 x2 x3 x4 x5 x6 x7 x8 (bt g) (ps g)
  unfold val_main_v127 val_main_v126 val_main_v125 val_main_v104 val_main_v16
  generalize val_main_v14 (F := Ideal) x0 x3 x4 = v at hz ⊢
  generalize tokenAt x0 x1 (bt g) (ps g) = T at hz ⊢
  generalize refWeights x2 x3 x4 x5 x6 x7 x8 = W at hz ⊢
  pointwise [val_main_v123, val_main_v124, val_main_cst_13, val_main_cst_14]
  simp only [hz]
  unfold resKa
  generalize zed T W = u
  by_cases h1 : j.val % 256 < 64
  · have h2 : twice j.val := Or.inl h1
    refine (dif_pos h1).trans (Eq.trans ?_ (if_pos h2).symm)
    exact at_eq u (show 512 + (j.val / 256 * 64 + j.val % 256) = 512 + 64 * (j.val / 256) + j.val % 64 by omega) _ _
  by_cases h3 : 192 ≤ j.val % 256
  · have h2 : twice j.val := Or.inr h3
    refine (dif_neg h1).trans ((dif_neg (by omega)).trans ((dif_neg (by omega)).trans (Eq.trans ?_ (if_pos h2).symm)))
    exact at_eq u (show 512 + (j.val / 256 * 64 + (j.val % 256 - 64 - 64 - 64)) = 512 + 64 * (j.val / 256) + j.val % 64 by omega) _ _
  · have h2 : ¬ twice j.val := fun h => h.elim h1 h3
    refine (dif_neg h1).trans (Eq.trans ?_ (if_neg h2).symm)
    by_cases h4 : j.val % 256 - 64 < 64
    · exact dif_pos h4
    · exact (dif_neg h4).trans (dif_pos (by omega))

/-- The indexer's keys. -/
theorem ref_Ki (g : Fin 32768) (j : Fin 256) : val_main_v132 (F := Ideal) x0 x3 x4 (ix2 g j)
    = resKi (tokenAt x0 x1 (bt g) (ps g)) (refWeights x2 x3 x4 x5 x6 x7 x8) j := by
  have hz := ref_zed x0 x1 x2 x3 x4 x5 x6 x7 x8 (bt g) (ps g)
  unfold val_main_v132 val_main_v131 val_main_v130 val_main_v19
  generalize val_main_v14 (F := Ideal) x0 x3 x4 = v at hz ⊢
  generalize tokenAt x0 x1 (bt g) (ps g) = T at hz ⊢
  generalize refWeights x2 x3 x4 x5 x6 x7 x8 = W at hz ⊢
  pointwise [val_main_v128, val_main_v129, val_main_cst_15, val_main_cst_16]
  simp only [hz]
  unfold resKi
  generalize zed T W = u
  by_cases h1 : j.val % 256 < 64
  · have h2 : twice j.val := Or.inl h1
    refine (dif_pos (show j.val < 64 by omega)).trans (Eq.trans ?_ (if_pos h2).symm)
    exact at_eq u (show 1024 + j.val = 1024 + j.val % 64 by omega) _ _
  by_cases h3 : 192 ≤ j.val % 256
  · have h2 : twice j.val := Or.inr h3
    refine (dif_neg (show ¬ j.val < 64 by omega)).trans ((dif_neg (by omega)).trans ((dif_neg (by omega)).trans (Eq.trans ?_ (if_pos h2).symm)))
    exact at_eq u (show 1024 + (j.val - 64 - 64 - 64) = 1024 + j.val % 64 by omega) _ _
  · have h2 : ¬ twice j.val := fun h => h.elim h1 h3
    refine (dif_neg (show ¬ j.val < 64 by omega)).trans (Eq.trans ?_ (if_neg h2).symm)
    by_cases h4 : j.val - 64 < 64
    · exact dif_pos h4
    · exact (dif_neg h4).trans (dif_pos (by omega))

/-- The first gate. -/
theorem ref_Ga (g : Fin 32768) (j : Fin 1024) : val_main_v150 (F := Ideal) x0 x3 x4 (ix2 g j)
    = resGa (tokenAt x0 x1 (bt g) (ps g)) (refWeights x2 x3 x4 x5 x6 x7 x8) j := by
  have hz := ref_zed x0 x1 x2 x3 x4 x5 x6 x7 x8 (bt g) (ps g)
  unfold val_main_v150 val_main_v149 val_main_v148 val_main_v146 val_main_v144 val_main_v143 val_main_v24
  generalize val_main_v14 (F := Ideal) x0 x3 x4 = v at hz ⊢
  generalize tokenAt x0 x1 (bt g) (ps g) = T at hz ⊢
  generalize refWeights x2 x3 x4 x5 x6 x7 x8 = W at hz ⊢
  pointwise [val_main_v147, val_main_v145, val_main_cst_18, val_main_cst_19]
  simp only [hz]
  rfl

/-- The second gate. -/
theorem ref_Gb (g : Fin 32768) (j : Fin 1024) : val_main_v158 (F := Ideal) x0 x3 x4 (ix2 g j)
    = resGb (tokenAt x0 x1 (bt g) (ps g)) (refWeights x2 x3 x4 x5 x6 x7 x8) j := by
  have hz := ref_zed x0 x1 x2 x3 x4 x5 x6 x7 x8 (bt g) (ps g)
  unfold val_main_v158 val_main_v157 val_main_v156 val_main_v154 val_main_v152 val_main_v151 val_main_v25
  generalize val_main_v14 (F := Ideal) x0 x3 x4 = v at hz ⊢
  generalize tokenAt x0 x1 (bt g) (ps g) = T at hz ⊢
  generalize refWeights x2 x3 x4 x5 x6 x7 x8 = W at hz ⊢
  pointwise [val_main_v155, val_main_v153, val_main_cst_20, val_main_cst_21]
  simp only [hz]
  rfl

/-- The latent queries. -/
theorem ref_Qb (g : Fin 32768) (j : Fin 1024) : val_main_v120 (F := Ideal) x0 x1 x2 x3 x4 x5 x6 (ix2 g j)
    = resQb (tokenAt x0 x1 (bt g) (ps g)) (refWeights x2 x3 x4 x5 x6 x7 x8) j := by
  have hz := ref_slotQ x0 x1 x2 x3 x4 x5 x6 x7 x8 (bt g) (ps g)
  unfold val_main_v120 val_main_v119 val_main_v118
  generalize val_main_v116 (F := Ideal) x0 x1 x2 x3 x4 x5 x6 = v at hz ⊢
  generalize tokenAt x0 x1 (bt g) (ps g) = T at hz ⊢
  generalize refWeights x2 x3 x4 x5 x6 x7 x8 = W at hz ⊢
  pointwise [val_main_v117, val_main_cst_12]
  simp only [hz]
  unfold resQb
  generalize quer T W = q
  exact congrArg₂ _ (congrArg₂ (fun v w => slot T W v w ⟨j.val % 128, by omega⟩)
    (funext fun d => at_eq q (show j.val / 128 * 96 + d.val = 96 * (j.val / 128) + d.val by omega) _ _)
    (funext fun d => at_eq q (show j.val / 128 * 96 + (64 + d.val) = 96 * (j.val / 128) + 64 + d.val by omega) _ _)) rfl

/-- The latent keys. -/
theorem ref_Kb (g : Fin 32768) (j : Fin 1024) : val_main_v136 (F := Ideal) x0 x1 x2 x3 x4 x7 x8 (ix2 g j)
    = resKb (tokenAt x0 x1 (bt g) (ps g)) (refWeights x2 x3 x4 x5 x6 x7 x8) j := by
  have hz := ref_slotK x0 x1 x2 x3 x4 x5 x6 x7 x8 (bt g) (ps g)
  unfold val_main_v136 val_main_v135
  generalize val_main_v134 (F := Ideal) x0 x1 x2 x3 x4 x7 x8 = v at hz ⊢
  generalize tokenAt x0 x1 (bt g) (ps g) = T at hz ⊢
  generalize refWeights x2 x3 x4 x5 x6 x7 x8 = W at hz ⊢
  pointwise []
  simp only [hz]
  unfold resKb
  generalize keyv T W = q
  exact congrArg (fun v => slot T W v _ ⟨j.val % 128, by omega⟩)
    (funext fun d => at_eq q (show j.val / 128 * 128 + d.val = 128 * (j.val / 128) + d.val by omega) _ _)

/-- The indexer's head weights, transposed. -/
theorem ref_Wi (a : Fin 8) (g : Fin 32768) : val_main_v122 (F := Ideal) x0 x3 x4 (ix2 a g)
    = resWi (tokenAt x0 x1 (bt g) (ps g)) (refWeights x2 x3 x4 x5 x6 x7 x8) a := by
  have hz := ref_zed x0 x1 x2 x3 x4 x5 x6 x7 x8 (bt g) (ps g)
  unfold val_main_v122 val_main_v121 val_main_v108 val_main_v106 val_main_v20
  generalize val_main_v14 (F := Ideal) x0 x3 x4 = v at hz ⊢
  generalize tokenAt x0 x1 (bt g) (ps g) = T at hz ⊢
  generalize refWeights x2 x3 x4 x5 x6 x7 x8 = W at hz ⊢
  pointwise [val_main_v105, val_main_v107, val_main_cst_8, val_main_cst_9]
  simp only [hz]
  unfold resWi
  generalize zed T W = q
  by_cases h : a.val < 4
  · rw [dif_pos h, if_pos h]
    rw [at_eq q (show 1088 + a.val = 1088 + a.val % 4 by omega)]
  · rw [dif_neg h, if_neg h]

/-- Lane `l` of chunk `d`: the chunks are 256 tokens each. -/
abbrev ln (d : Fin 128) (l : Fin 256) : Fin 32768 := ⟨256 * d.val + l.val, by have := d.isLt; have := l.isLt; omega⟩

/-- The attention values, in chunks. -/
theorem ref_Va (d : Fin 128) (i : Fin 128) (l : Fin 256) : val_main_v139 (F := Ideal) x0 x3 x4 (ix3 d i l)
    = resVa (tokenAt x0 x1 (bt (ln d l)) (ps (ln d l))) (refWeights x2 x3 x4 x5 x6 x7 x8) i := by
  have hz := ref_zed x0 x1 x2 x3 x4 x5 x6 x7 x8
  unfold val_main_v139 val_main_v138 val_main_v137 val_main_v17
  generalize val_main_v14 (F := Ideal) x0 x3 x4 = v at hz ⊢
  generalize tokenAt x0 x1 = T at hz ⊢
  generalize refWeights x2 x3 x4 x5 x6 x7 x8 = W at hz ⊢
  pointwise []
  simp only [hz]
  have e1 : (⟨d.val / 8, by omega⟩ : Fin 16) = bt (ln d l) := Fin.ext (show d.val / 8 = (256 * d.val + l.val) / 2048 by omega)
  have e2 : (⟨d.val % 8 * 256 + l.val, by omega⟩ : Fin 2048) = ps (ln d l) :=
    Fin.ext (show d.val % 8 * 256 + l.val = (256 * d.val + l.val) % 2048 by omega)
  rw [e1, e2]
  rfl

/-- The latent values, in chunks. -/
theorem ref_Vb (d : Fin 128) (i : Fin 512) (l : Fin 256) : val_main_v142 (F := Ideal) x0 x3 x4 x7 x8 (ix3 d i l)
    = resVb (tokenAt x0 x1 (bt (ln d l)) (ps (ln d l))) (refWeights x2 x3 x4 x5 x6 x7 x8) i := by
  have hz := ref_keyv x0 x1 x2 x3 x4 x5 x6 x7 x8
  unfold val_main_v142 val_main_v141 val_main_v140 val_main_v103 val_main_v81
  generalize val_main_v80 (F := Ideal) x0 x3 x4 x7 x8 = v at hz ⊢
  generalize tokenAt x0 x1 = T at hz ⊢
  generalize refWeights x2 x3 x4 x5 x6 x7 x8 = W at hz ⊢
  pointwise []
  simp only [hz]
  have e1 : (⟨d.val / 8, by omega⟩ : Fin 16) = bt (ln d l) := Fin.ext (show d.val / 8 = (256 * d.val + l.val) / 2048 by omega)
  have e2 : (⟨d.val % 8 * 256 + l.val, by omega⟩ : Fin 2048) = ps (ln d l) :=
    Fin.ext (show d.val % 8 * 256 + l.val = (256 * d.val + l.val) % 2048 by omega)
  rw [e1, e2]
  unfold resVb
  exact at_eq (keyv _ _) (show i.val / 64 * 128 + (64 + i.val % 64) = 128 * (i.val / 64) + 64 + i.val % 64 by omega) _ _

end Cert.Proof.Proj

end
-- ==== Proof.ProjClaim.lean ====
/- The claims about the first call of the layer (normalisation, the input projection, the latent queries and keys with their
   rotation, the gates): the frames, and the equality of the kernel's eleven arrays with the reference's. -/
module

public import proofs.«01_k».proof.Defs
public import proofs.«01_k».proof.Proof.Gen.Kernel2.Frame
public import proofs.«01_k».proof.Proof.ProjArray
public import proofs.«01_k».proof.Proof.ProjRefOut

@[expose] public section

noncomputable section

namespace Cert.Proof.Proj

open Idealize.ShloMosaic Idealize.ShloMosaic.TcCoe Idealize.SL.Sem
open Cert.Kernel2Ideal (main_arg0 main_arg1 main_arg2 main_arg3 main_arg4 main_arg5 main_arg6 main_arg7 main_arg8)

/-- Every run of the kernel ends, with its arguments as they were. -/
theorem frame_kernel : Cert.quiescent_Kernel2 := fun m ρ _ => Cert.Kernel2.Gen.frame m ρ

/-- The same over the extended reals. -/
theorem frame_ideal : Cert.quiescent_Kernel2Ideal := fun m ρ _ => Cert.Kernel2Ideal.Gen.frame m ρ

/-- The reference is a line of host operations: its run leaves the arguments alone and declares no semaphore. -/
theorem frame_reference : Cert.quiescent_Reference2Ideal := fun m ρ _ =>
  θ_run_mono (Cert.Reference2Ideal.Value.run (F := Ideal) m ρ) fun r h =>
    ⟨fun c => (h c).2.2.2.2.2.2.2.2.2.2.2, sem_eq_zero_of_no_sems (by decide) r.2⟩

variable (m : (ℓ : Loc Cert.Kernel2Ideal.nD Cert.Kernel2Ideal.τ Cert.Kernel2Ideal.sig) → Buf (Elt Ideal) ℓ)
  (c : Dev Cert.Kernel2Ideal.nD)

/-- The reference's array of the attention queries, computed from the kernel's arguments, is the kernel's. -/
theorem ref_arrQa {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v112 (F := Ideal) x0 x3 x4 = arrQa m c := by
  subst h0 h3 h4
  funext i
  rw [eq_ix2 i]
  show _ = resQa (tok m c (i 0)) (wts m c) (i 1)
  exact ref_Qa (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the indexer's queries, computed from the kernel's arguments, is the kernel's. -/
theorem ref_arrQi {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v114 (F := Ideal) x0 x3 x4 = arrQi m c := by
  subst h0 h3 h4
  funext i
  rw [eq_ix2 i]
  show _ = resQi (tok m c (i 0)) (wts m c) (i 1)
  exact ref_Qi (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the latent queries, computed from the kernel's arguments, is the kernel's. -/
theorem ref_arrQb {x0 x1 x2 x3 x4 x5 x6}
    (h0 : x0 = m ((c.tc : Thread Cert.Kernel2Ideal.nD Cert.Kernel2Ideal.τ).loc main_arg0))
    (h1 : x1 = m ((c.tc : Thread Cert.Kernel2Ideal.nD Cert.Kernel2Ideal.τ).loc main_arg1))
    (h2 : x2 = m ((c.tc : Thread Cert.Kernel2Ideal.nD Cert.Kernel2Ideal.τ).loc main_arg2))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4))
    (h5 : x5 = m ((c.tc : Thread Cert.Kernel2Ideal.nD Cert.Kernel2Ideal.τ).loc main_arg5))
    (h6 : x6 = m ((c.tc : Thread Cert.Kernel2Ideal.nD Cert.Kernel2Ideal.τ).loc main_arg6)) :
    Cert.Reference2Ideal.Read.val_main_v120 (F := Ideal) x0 x1 x2 x3 x4 x5 x6 = arrQb m c := by
  subst h0 h1 h2 h3 h4 h5 h6
  funext i
  rw [eq_ix2 i]
  show _ = resQb (tok m c (i 0)) (wts m c) (i 1)
  exact ref_Qb (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the indexer's head weights, computed from the kernel's arguments, is the kernel's. -/
theorem ref_arrWi {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v122 (F := Ideal) x0 x3 x4 = arrWi m c := by
  subst h0 h3 h4
  funext i
  rw [eq_ix2 i]
  show _ = resWi (tok m c (i 1)) (wts m c) (i 0)
  exact ref_Wi (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the attention keys, computed from the kernel's arguments, is the kernel's. -/
theorem ref_arrKa {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v127 (F := Ideal) x0 x3 x4 = arrKa m c := by
  subst h0 h3 h4
  funext i
  rw [eq_ix2 i]
  show _ = resKa (tok m c (i 0)) (wts m c) (i 1)
  exact ref_Ka (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the indexer's keys, computed from the kernel's arguments, is the kernel's. -/
theorem ref_arrKi {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v132 (F := Ideal) x0 x3 x4 = arrKi m c := by
  subst h0 h3 h4
  funext i
  rw [eq_ix2 i]
  show _ = resKi (tok m c (i 0)) (wts m c) (i 1)
  exact ref_Ki (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the latent keys, computed from the kernel's arguments, is the kernel's. -/
theorem ref_arrKb {x0 x1 x2 x3 x4 x7 x8}
    (h0 : x0 = m ((c.tc : Thread Cert.Kernel2Ideal.nD Cert.Kernel2Ideal.τ).loc main_arg0))
    (h1 : x1 = m ((c.tc : Thread Cert.Kernel2Ideal.nD Cert.Kernel2Ideal.τ).loc main_arg1))
    (h2 : x2 = m ((c.tc : Thread Cert.Kernel2Ideal.nD Cert.Kernel2Ideal.τ).loc main_arg2))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4))
    (h7 : x7 = m ((c.tc : Thread Cert.Kernel2Ideal.nD Cert.Kernel2Ideal.τ).loc main_arg7))
    (h8 : x8 = m ((c.tc : Thread Cert.Kernel2Ideal.nD Cert.Kernel2Ideal.τ).loc main_arg8)) :
    Cert.Reference2Ideal.Read.val_main_v136 (F := Ideal) x0 x1 x2 x3 x4 x7 x8 = arrKb m c := by
  subst h0 h1 h2 h3 h4 h7 h8
  funext i
  rw [eq_ix2 i]
  show _ = resKb (tok m c (i 0)) (wts m c) (i 1)
  exact ref_Kb (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the attention values, computed from the kernel's arguments, is the kernel's. -/
theorem ref_arrVa {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v139 (F := Ideal) x0 x3 x4 = arrVa m c := by
  subst h0 h3 h4
  funext i
  rw [eq_ix3 i]
  show _ = resVa (tok m c (lane (i 0) (i 2))) (wts m c) (i 1)
  exact ref_Va (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1) (i 2)

/-- The reference's array of the latent values, computed from the kernel's arguments, is the kernel's. -/
theorem ref_arrVb {x0 x3 x4 x7 x8}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4))
    (h7 : x7 = m ((c.tc : Thread Cert.Kernel2Ideal.nD Cert.Kernel2Ideal.τ).loc main_arg7))
    (h8 : x8 = m ((c.tc : Thread Cert.Kernel2Ideal.nD Cert.Kernel2Ideal.τ).loc main_arg8)) :
    Cert.Reference2Ideal.Read.val_main_v142 (F := Ideal) x0 x3 x4 x7 x8 = arrVb m c := by
  subst h0 h3 h4 h7 h8
  funext i
  rw [eq_ix3 i]
  show _ = resVb (tok m c (lane (i 0) (i 2))) (wts m c) (i 1)
  exact ref_Vb (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1) (i 2)

/-- The reference's array of the first gate, computed from the kernel's arguments, is the kernel's. -/
theorem ref_arrGa {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v150 (F := Ideal) x0 x3 x4 = arrGa m c := by
  subst h0 h3 h4
  funext i
  rw [eq_ix2 i]
  show _ = resGa (tok m c (i 0)) (wts m c) (i 1)
  exact ref_Ga (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- The reference's array of the second gate, computed from the kernel's arguments, is the kernel's. -/
theorem ref_arrGb {x0 x3 x4}
    (h0 : x0 = m ((c.tc : Thread Cert.Kernel2Ideal.nD Cert.Kernel2Ideal.τ).loc main_arg0))
    (h3 : x3 = m ((c.tc : Thread Cert.Kernel2Ideal.nD Cert.Kernel2Ideal.τ).loc main_arg3))
    (h4 : x4 = m ((c.tc : Thread Cert.Kernel2Ideal.nD Cert.Kernel2Ideal.τ).loc main_arg4)) :
    Cert.Reference2Ideal.Read.val_main_v158 (F := Ideal) x0 x3 x4 = arrGb m c := by
  subst h0 h3 h4
  funext i
  rw [eq_ix2 i]
  show _ = resGb (tok m c (i 0)) (wts m c) (i 1)
  exact ref_Gb (m ((c.tc : Thread Cert.Kernel2Ideal.nD Cert.Kernel2Ideal.τ).loc main_arg0))
    (m ((c.tc : Thread Cert.Kernel2Ideal.nD Cert.Kernel2Ideal.τ).loc main_arg1))
    (m ((c.tc : Thread Cert.Kernel2Ideal.nD Cert.Kernel2Ideal.τ).loc main_arg2))
    (m ((c.tc : Thread Cert.Kernel2Ideal.nD Cert.Kernel2Ideal.τ).loc main_arg3))
    (m ((c.tc : Thread Cert.Kernel2Ideal.nD Cert.Kernel2Ideal.τ).loc main_arg4))
    (m ((c.tc : Thread Cert.Kernel2Ideal.nD Cert.Kernel2Ideal.τ).loc main_arg5))
    (m ((c.tc : Thread Cert.Kernel2Ideal.nD Cert.Kernel2Ideal.τ).loc main_arg6))
    (m ((c.tc : Thread Cert.Kernel2Ideal.nD Cert.Kernel2Ideal.τ).loc main_arg7))
    (m ((c.tc : Thread Cert.Kernel2Ideal.nD Cert.Kernel2Ideal.τ).loc main_arg8))
    (i 0) (i 1)

/-- From the same arguments, the kernel's eleven arrays and the reference's are the same. -/
theorem algebraic : Cert.algebraic_Kernel2Ideal_Reference2Ideal := by
  intro m g m' g' _ hagree
  refine ⟨fun c => arrQa m c, fun c => arrQi m c, fun c => arrQb m c, fun c => arrWi m c,
    fun c => arrKa m c, fun c => arrKi m c, fun c => arrKb m c, fun c => arrVa m c, fun c => arrVb m c, fun c => arrGa m c, fun c => arrGb m c,
    θ_run_mono (Cert.Kernel2Ideal.Value.run_blocks m g) fun r h c => ?_,
    θ_run_mono (Cert.Reference2Ideal.Value.run (F := Ideal) m' g') fun r h c => ?_⟩
  · obtain ⟨k0, k1, k2, k3, k4, k5, k6, k7, k8, k9, k10, kept⟩ := h c
    exact ⟨k0.trans (arrQa_eq m c),
      k1.trans (arrQi_eq m c),
      k2.trans (arrQb_eq m c),
      k3.trans (arrWi_eq m c),
      k4.trans (arrKa_eq m c),
      k5.trans (arrKi_eq m c),
      k6.trans (arrKb_eq m c),
      k7.trans (arrVa_eq m c),
      k8.trans (arrVb_eq m c),
      k9.trans (arrGa_eq m c),
      k10.trans (arrGb_eq m c), kept⟩
  · obtain ⟨h0, h1, h2, h3, h4, h5, h6, h7, h8⟩ := hagree c
    obtain ⟨r0, r1, r2, r3, r4, r5, r6, r7, r8, r9, r10, kept⟩ := h c
    exact ⟨r0.trans ((Cert.Reference2Ideal.Read.val_main_v112_eq _).trans (ref_arrQa m c h0 h3 h4)),
      r1.trans ((Cert.Reference2Ideal.Read.val_main_v114_eq _).trans (ref_arrQi m c h0 h3 h4)),
      r2.trans ((Cert.Reference2Ideal.Read.val_main_v120_eq _).trans (ref_arrQb m c h0 h1 h2 h3 h4 h5 h6)),
      r3.trans ((Cert.Reference2Ideal.Read.val_main_v122_eq _).trans (ref_arrWi m c h0 h3 h4)),
      r4.trans ((Cert.Reference2Ideal.Read.val_main_v127_eq _).trans (ref_arrKa m c h0 h3 h4)),
      r5.trans ((Cert.Reference2Ideal.Read.val_main_v132_eq _).trans (ref_arrKi m c h0 h3 h4)),
      r6.trans ((Cert.Reference2Ideal.Read.val_main_v136_eq _).trans (ref_arrKb m c h0 h1 h2 h3 h4 h7 h8)),
      r7.trans ((Cert.Reference2Ideal.Read.val_main_v139_eq _).trans (ref_arrVa m c h0 h3 h4)),
      r8.trans ((Cert.Reference2Ideal.Read.val_main_v142_eq _).trans (ref_arrVb m c h0 h3 h4 h7 h8)),
      r9.trans ((Cert.Reference2Ideal.Read.val_main_v150_eq _).trans (ref_arrGa m c h0 h3 h4)),
      r10.trans ((Cert.Reference2Ideal.Read.val_main_v158_eq _).trans (ref_arrGb m c h0 h3 h4)), kept⟩

end Cert.Proof.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.PostClaim
public import proofs.«01_k».proof.Proof.ProjClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Post.frame_kernel, Post.frame_ideal, Post.frame_reference,
    Proj.frame_kernel, Proj.frame_ideal, Proj.frame_reference,
    trivial, Post.algebraic, trivial, Proj.algebraic⟩

end Cert.Proof

end
